-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_gates_tame [hPre_gates_tame : Cert.Pre_gates_tame.Facts] (m : (ℓ : Loc Cert.MoeIdeal.nD Cert.MoeIdeal.τ Cert.MoeIdeal.sig) → Buf (Elt Ideal) ℓ) : Prop :=
  ∀ c : Dev Cert.MoeIdeal.nD,
    (Cert.Pre_gates_tame.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9)) (m ((c.tc : Thread Cert.MoeIdeal.nD Cert.MoeIdeal.τ).loc Cert.MoeIdeal.main_arg10))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_gates_tame [hPre_gates_tame : Cert.Pre_gates_tame.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_gates_tame.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9)) (m ((c.tc : Thread Cert.MoeRefIdeal.nD Cert.MoeRefIdeal.τ).loc Cert.MoeRefIdeal.main_arg10))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_heads_tame [hPre_heads_tame : Cert.Pre_heads_tame.Facts] (m : (ℓ : Loc Cert.AttnIdeal.nD Cert.AttnIdeal.τ Cert.AttnIdeal.sig) → Buf (Elt Ideal) ℓ) : Prop :=
  ∀ c : Dev Cert.AttnIdeal.nD,
    (Cert.Pre_heads_tame.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_heads_tame [hPre_heads_tame : Cert.Pre_heads_tame.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_heads_tame.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_ctx_tame [hPre_ctx_tame : Cert.Pre_ctx_tame.Facts] (m : (ℓ : Loc Cert.CtxIdeal.nD Cert.CtxIdeal.τ Cert.CtxIdeal.sig) → Buf (Elt Ideal) ℓ) : Prop :=
  ∀ c : Dev Cert.CtxIdeal.nD,
    (Cert.Pre_ctx_tame.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7)) (m ((c.tc : Thread Cert.CtxIdeal.nD Cert.CtxIdeal.τ).loc Cert.CtxIdeal.main_arg8))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_ctx_tame [hPre_ctx_tame : Cert.Pre_ctx_tame.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_ctx_tame.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7)) (m ((c.tc : Thread Cert.CtxRefIdeal.nD Cert.CtxRefIdeal.τ).loc Cert.CtxRefIdeal.main_arg8))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_tame [hPre_mix_tame : Cert.Pre_mix_tame.Facts] (m : (ℓ : Loc Cert.MixIdeal.nD Cert.MixIdeal.τ Cert.MixIdeal.sig) → Buf (Elt Ideal) ℓ) : Prop :=
  ∀ c : Dev Cert.MixIdeal.nD,
    (Cert.Pre_mix_tame.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_tame [hPre_mix_tame : Cert.Pre_mix_tame.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_tame.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9)
      ∧ r.2.mem ((c.tc : Thread Cert.Moe.nD Cert.Moe.τ).loc Cert.Moe.main_arg10) = m ((c.tc : Thread Cert.Moe.nD Cert.Moe.τ).loc Cert.Moe.main_arg10))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10))
      ∧ r.2.sem = fun _ => 0)

def quiescent_MoeIdeal_pre_gates_tame [hMoeIdeal : Cert.MoeIdeal.Facts] [hPre_gates_tame : Cert.Pre_gates_tame.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_gates_tame m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10))
      ∧ r.2.sem = fun _ => 0)

def quiescent_MoeRefIdeal_pre_gates_tame [hMoeRefIdeal : Cert.MoeRefIdeal.Facts] [hPre_gates_tame : Cert.Pre_gates_tame.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_gates_tame m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_heads_tame [hAttnIdeal : Cert.AttnIdeal.Facts] [hPre_heads_tame : Cert.Pre_heads_tame.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_heads_tame m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_heads_tame [hAttnRefIdeal : Cert.AttnRefIdeal.Facts] [hPre_heads_tame : Cert.Pre_heads_tame.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_heads_tame m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6)
      ∧ r.2.mem ((c.tc : Thread Cert.Ctx.nD Cert.Ctx.τ).loc Cert.Ctx.main_arg7) = m ((c.tc : Thread Cert.Ctx.nD Cert.Ctx.τ).loc Cert.Ctx.main_arg7)
      ∧ r.2.mem ((c.tc : Thread Cert.Ctx.nD Cert.Ctx.τ).loc Cert.Ctx.main_arg8) = m ((c.tc : Thread Cert.Ctx.nD Cert.Ctx.τ).loc Cert.Ctx.main_arg8))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
      ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8))
      ∧ r.2.sem = fun _ => 0)

def quiescent_CtxIdeal_pre_ctx_tame [hCtxIdeal : Cert.CtxIdeal.Facts] [hPre_ctx_tame : Cert.Pre_ctx_tame.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_ctx_tame m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
      ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7)
      ∧ r.2.mem ((c.tc : Thread Cert.CtxRefIdeal.nD Cert.CtxRefIdeal.τ).loc Cert.CtxRefIdeal.main_arg8) = m ((c.tc : Thread Cert.CtxRefIdeal.nD Cert.CtxRefIdeal.τ).loc Cert.CtxRefIdeal.main_arg8))
      ∧ r.2.sem = fun _ => 0)

def quiescent_CtxRefIdeal_pre_ctx_tame [hCtxRefIdeal : Cert.CtxRefIdeal.Facts] [hPre_ctx_tame : Cert.Pre_ctx_tame.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_ctx_tame m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7)
      ∧ r.2.mem ((c.tc : Thread Cert.CtxRefIdeal.nD Cert.CtxRefIdeal.τ).loc Cert.CtxRefIdeal.main_arg8) = m ((c.tc : Thread Cert.CtxRefIdeal.nD Cert.CtxRefIdeal.τ).loc Cert.CtxRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixIdeal_pre_mix_tame [hMixIdeal : Cert.MixIdeal.Facts] [hPre_mix_tame : Cert.Pre_mix_tame.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_tame m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_MixRefIdeal_pre_mix_tame [hMixRefIdeal : Cert.MixRefIdeal.Facts] [hPre_mix_tame : Cert.Pre_mix_tame.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_tame m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def preserves_Moe_MoeIdeal : Prop :=
  True

def algebraic_MoeIdeal_MoeRefIdeal_pre_gates_tame [hMoeIdeal : Cert.MoeIdeal.Facts] [hMoeRefIdeal : Cert.MoeRefIdeal.Facts] [hPre_gates_tame : Cert.Pre_gates_tame.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_gates_tame m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)
      ∧ m' ((c.tc : Thread Cert.MoeRefIdeal.nD Cert.MoeRefIdeal.τ).loc Cert.MoeRefIdeal.main_arg10) = m ((c.tc : Thread Cert.MoeIdeal.nD Cert.MoeIdeal.τ).loc Cert.MoeIdeal.main_arg10)) →
    ∃ (v0 : (c : Dev Cert.MoeIdeal.nD) → Buf (Elt Ideal) ((c.tc : Thread Cert.MoeIdeal.nD Cert.MoeIdeal.τ).loc Cert.MoeIdeal.main_v17)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v17) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
          ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v52) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9)
          ∧ r.2.mem ((c.tc : Thread Cert.MoeRefIdeal.nD Cert.MoeRefIdeal.τ).loc Cert.MoeRefIdeal.main_arg10) = m' ((c.tc : Thread Cert.MoeRefIdeal.nD Cert.MoeRefIdeal.τ).loc Cert.MoeRefIdeal.main_arg10))

def preserves_Attn_AttnIdeal : Prop :=
  True

def algebraic_AttnIdeal_AttnRefIdeal_pre_heads_tame [hAttnIdeal : Cert.AttnIdeal.Facts] [hAttnRefIdeal : Cert.AttnRefIdeal.Facts] [hPre_heads_tame : Cert.Pre_heads_tame.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_heads_tame m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v18)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v18) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v29) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ctx_CtxIdeal : Prop :=
  True

def algebraic_CtxIdeal_CtxRefIdeal_pre_ctx_tame [hCtxIdeal : Cert.CtxIdeal.Facts] [hCtxRefIdeal : Cert.CtxRefIdeal.Facts] [hPre_ctx_tame : Cert.Pre_ctx_tame.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_ctx_tame m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)
      ∧ m' ((c.tc : Thread Cert.CtxRefIdeal.nD Cert.CtxRefIdeal.τ).loc Cert.CtxRefIdeal.main_arg7) = m ((c.tc : Thread Cert.CtxIdeal.nD Cert.CtxIdeal.τ).loc Cert.CtxIdeal.main_arg7)
      ∧ m' ((c.tc : Thread Cert.CtxRefIdeal.nD Cert.CtxRefIdeal.τ).loc Cert.CtxRefIdeal.main_arg8) = m ((c.tc : Thread Cert.CtxIdeal.nD Cert.CtxIdeal.τ).loc Cert.CtxIdeal.main_arg8)) →
    ∃ (v0 : (c : Dev Cert.CtxIdeal.nD) → Buf (Elt Ideal) ((c.tc : Thread Cert.CtxIdeal.nD Cert.CtxIdeal.τ).loc Cert.CtxIdeal.main_v39_0)) (v1 : (c : Dev Cert.CtxIdeal.nD) → Buf (Elt Ideal) ((c.tc : Thread Cert.CtxIdeal.nD Cert.CtxIdeal.τ).loc Cert.CtxIdeal.main_v39_1)) (v2 : (c : Dev Cert.CtxIdeal.nD) → Buf (Elt Ideal) ((c.tc : Thread Cert.CtxIdeal.nD Cert.CtxIdeal.τ).loc Cert.CtxIdeal.main_v39_2)) (v3 : (c : Dev Cert.CtxIdeal.nD) → Buf (Elt Ideal) ((c.tc : Thread Cert.CtxIdeal.nD Cert.CtxIdeal.τ).loc Cert.CtxIdeal.main_v39_3)) (v4 : (c : Dev Cert.CtxIdeal.nD) → Buf (Elt Ideal) ((c.tc : Thread Cert.CtxIdeal.nD Cert.CtxIdeal.τ).loc Cert.CtxIdeal.main_v39_4)) (v5 : (c : Dev Cert.CtxIdeal.nD) → Buf (Elt Ideal) ((c.tc : Thread Cert.CtxIdeal.nD Cert.CtxIdeal.τ).loc Cert.CtxIdeal.main_v39_5)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v39_0) = v0 c
          ∧ r.2.mem ((c.tc : Thread Cert.CtxIdeal.nD Cert.CtxIdeal.τ).loc Cert.CtxIdeal.main_v39_1) = v1 c
          ∧ r.2.mem ((c.tc : Thread Cert.CtxIdeal.nD Cert.CtxIdeal.τ).loc Cert.CtxIdeal.main_v39_2) = v2 c
          ∧ r.2.mem ((c.tc : Thread Cert.CtxIdeal.nD Cert.CtxIdeal.τ).loc Cert.CtxIdeal.main_v39_3) = v3 c
          ∧ r.2.mem ((c.tc : Thread Cert.CtxIdeal.nD Cert.CtxIdeal.τ).loc Cert.CtxIdeal.main_v39_4) = v4 c
          ∧ r.2.mem ((c.tc : Thread Cert.CtxIdeal.nD Cert.CtxIdeal.τ).loc Cert.CtxIdeal.main_v39_5) = v5 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
          ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
          ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v78) = v0 c
          ∧ r.2.mem ((c.tc : Thread Cert.CtxRefIdeal.nD Cert.CtxRefIdeal.τ).loc Cert.CtxRefIdeal.main_v47) = v1 c
          ∧ r.2.mem ((c.tc : Thread Cert.CtxRefIdeal.nD Cert.CtxRefIdeal.τ).loc Cert.CtxRefIdeal.main_v49) = v2 c
          ∧ r.2.mem ((c.tc : Thread Cert.CtxRefIdeal.nD Cert.CtxRefIdeal.τ).loc Cert.CtxRefIdeal.main_v79) = v3 c
          ∧ r.2.mem ((c.tc : Thread Cert.CtxRefIdeal.nD Cert.CtxRefIdeal.τ).loc Cert.CtxRefIdeal.main_v80) = v4 c
          ∧ r.2.mem ((c.tc : Thread Cert.CtxRefIdeal.nD Cert.CtxRefIdeal.τ).loc Cert.CtxRefIdeal.main_v51) = v5 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6)
          ∧ r.2.mem ((c.tc : Thread Cert.CtxRefIdeal.nD Cert.CtxRefIdeal.τ).loc Cert.CtxRefIdeal.main_arg7) = m' ((c.tc : Thread Cert.CtxRefIdeal.nD Cert.CtxRefIdeal.τ).loc Cert.CtxRefIdeal.main_arg7)
          ∧ r.2.mem ((c.tc : Thread Cert.CtxRefIdeal.nD Cert.CtxRefIdeal.τ).loc Cert.CtxRefIdeal.main_arg8) = m' ((c.tc : Thread Cert.CtxRefIdeal.nD Cert.CtxRefIdeal.τ).loc Cert.CtxRefIdeal.main_arg8))

def preserves_Mix_MixIdeal : Prop :=
  True

def algebraic_MixIdeal_MixRefIdeal_pre_mix_tame [hMixIdeal : Cert.MixIdeal.Facts] [hMixRefIdeal : Cert.MixRefIdeal.Facts] [hPre_mix_tame : Cert.Pre_mix_tame.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_tame m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v22_0)) (v1 : (c : Dev Cert.MixIdeal.nD) → Buf (Elt Ideal) ((c.tc : Thread Cert.MixIdeal.nD Cert.MixIdeal.τ).loc Cert.MixIdeal.main_v22_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v22_0) = v0 c
          ∧ r.2.mem ((c.tc : Thread Cert.MixIdeal.nD Cert.MixIdeal.τ).loc Cert.MixIdeal.main_v22_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v86) = v0 c
          ∧ r.2.mem ((c.tc : Thread Cert.MixRefIdeal.nD Cert.MixRefIdeal.τ).loc Cert.MixRefIdeal.main_v88) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def Claim : Prop :=
  ∃ (hMoe : Cert.Moe.Facts) (hMoeIdeal : Cert.MoeIdeal.Facts) (hMoeRefIdeal : Cert.MoeRefIdeal.Facts) (hAttn : Cert.Attn.Facts) (hAttnIdeal : Cert.AttnIdeal.Facts) (hAttnRefIdeal : Cert.AttnRefIdeal.Facts) (hCtx : Cert.Ctx.Facts) (hCtxIdeal : Cert.CtxIdeal.Facts) (hCtxRefIdeal : Cert.CtxRefIdeal.Facts) (hMix : Cert.Mix.Facts) (hMixIdeal : Cert.MixIdeal.Facts) (hMixRefIdeal : Cert.MixRefIdeal.Facts) (hPre_gates_tame : Cert.Pre_gates_tame.Facts) (hPre_heads_tame : Cert.Pre_heads_tame.Facts) (hPre_ctx_tame : Cert.Pre_ctx_tame.Facts) (hPre_mix_tame : Cert.Pre_mix_tame.Facts),
    quiescent_Moe (hMoe := hMoe)
    ∧ quiescent_MoeIdeal (hMoeIdeal := hMoeIdeal)
    ∧ quiescent_MoeIdeal_pre_gates_tame (hMoeIdeal := hMoeIdeal) (hPre_gates_tame := hPre_gates_tame)
    ∧ quiescent_MoeRefIdeal (hMoeRefIdeal := hMoeRefIdeal)
    ∧ quiescent_MoeRefIdeal_pre_gates_tame (hMoeRefIdeal := hMoeRefIdeal) (hPre_gates_tame := hPre_gates_tame)
    ∧ quiescent_Attn (hAttn := hAttn)
    ∧ quiescent_AttnIdeal (hAttnIdeal := hAttnIdeal)
    ∧ quiescent_AttnIdeal_pre_heads_tame (hAttnIdeal := hAttnIdeal) (hPre_heads_tame := hPre_heads_tame)
    ∧ quiescent_AttnRefIdeal (hAttnRefIdeal := hAttnRefIdeal)
    ∧ quiescent_AttnRefIdeal_pre_heads_tame (hAttnRefIdeal := hAttnRefIdeal) (hPre_heads_tame := hPre_heads_tame)
    ∧ quiescent_Ctx (hCtx := hCtx)
    ∧ quiescent_CtxIdeal (hCtxIdeal := hCtxIdeal)
    ∧ quiescent_CtxIdeal_pre_ctx_tame (hCtxIdeal := hCtxIdeal) (hPre_ctx_tame := hPre_ctx_tame)
    ∧ quiescent_CtxRefIdeal (hCtxRefIdeal := hCtxRefIdeal)
    ∧ quiescent_CtxRefIdeal_pre_ctx_tame (hCtxRefIdeal := hCtxRefIdeal) (hPre_ctx_tame := hPre_ctx_tame)
    ∧ quiescent_Mix (hMix := hMix)
    ∧ quiescent_MixIdeal (hMixIdeal := hMixIdeal)
    ∧ quiescent_MixIdeal_pre_mix_tame (hMixIdeal := hMixIdeal) (hPre_mix_tame := hPre_mix_tame)
    ∧ quiescent_MixRefIdeal (hMixRefIdeal := hMixRefIdeal)
    ∧ quiescent_MixRefIdeal_pre_mix_tame (hMixRefIdeal := hMixRefIdeal) (hPre_mix_tame := hPre_mix_tame)
    ∧ preserves_Moe_MoeIdeal
    ∧ algebraic_MoeIdeal_MoeRefIdeal_pre_gates_tame (hMoeIdeal := hMoeIdeal) (hMoeRefIdeal := hMoeRefIdeal) (hPre_gates_tame := hPre_gates_tame)
    ∧ preserves_Attn_AttnIdeal
    ∧ algebraic_AttnIdeal_AttnRefIdeal_pre_heads_tame (hAttnIdeal := hAttnIdeal) (hAttnRefIdeal := hAttnRefIdeal) (hPre_heads_tame := hPre_heads_tame)
    ∧ preserves_Ctx_CtxIdeal
    ∧ algebraic_CtxIdeal_CtxRefIdeal_pre_ctx_tame (hCtxIdeal := hCtxIdeal) (hCtxRefIdeal := hCtxRefIdeal) (hPre_ctx_tame := hPre_ctx_tame)
    ∧ preserves_Mix_MixIdeal
    ∧ algebraic_MixIdeal_MixRefIdeal_pre_mix_tame (hMixIdeal := hMixIdeal) (hMixRefIdeal := hMixRefIdeal) (hPre_mix_tame := hPre_mix_tame)
-- ==== Pre_ctx_tame.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S16x256x1024 : Shape := ⟨3, ![16, 256, 1024]⟩
abbrev S1x1024 : Shape := ⟨2, ![1, 1024]⟩
abbrev S1x1024x2688 : Shape := ⟨3, ![1, 1024, 2688]⟩
abbrev S1x64 : Shape := ⟨2, ![1, 64]⟩
abbrev S1024x1 : Shape := ⟨2, ![1024, 1]⟩
abbrev S_ : Shape := ⟨0, ![]⟩
abbrev S1024x6144 : Shape := ⟨2, ![1024, 6144]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  shapeCasts_S1x1024x6144_S1024x6144 : S1x1024x6144.ShapeCasts S1024x6144
  bcast_S_S1024x6144 : S_.BroadcastsInDim S1024x6144 (![] : Fin 0 → Fin S1024x6144.rank)
  bcast_S1024x1_S1024x6144_0_1 : S1024x1.BroadcastsInDim S1024x6144 (![0, 1] : Fin 2 → Fin S1024x6144.rank)

variable [Facts]

def fn {F : FTy → Type} [FloatOps F] (main_arg0 : FVec F S8x1024 .f32) (main_arg1 : FVec F S1024 .f32) (main_arg2 : FVec F S1x1024x6144 .f32) (main_arg3 : FVec F S1x6144 .f32) (main_arg4 : FVec F S16x256x1024 .f32) (main_arg5 : FVec F S1x1024 .f32) (main_arg6 : FVec F S1x1024x2688 .f32) (main_arg7 : FVec F S1x64 .f32) (main_arg8 : FVec F S1x64 .f32) : IVec S1024x6144 1 :=
  let main_v0 : FVec F S1024 .f32 := Host.absf main_arg1
  let main_v1 : FVec F S1024x1 .f32 := broadcastInDim S1024x1 ![0] bcast_S1024_S1024x1_0 main_v0
  let main_cst : FVec F S_ .f32 := constant S_ .f32 0x7F800000#32
  let main_v2 : FVec F S1024x1 .f32 := broadcastInDim S1024x1 ![] bcast_S_S1024x1 main_cst
  let main_v3 : IVec S1024x1 1 := cmpf .olt main_v1 main_v2
  let main_v4 : FVec F S1024x6144 .f32 := shapeCast S1024x6144 main_arg2 shapeCasts_S1x1024x6144_S1024x6144
  let main_v5 : FVec F S1024x6144 .f32 := Host.absf main_v4
  let main_cst_0 : FVec F S_ .f32 := constant S_ .f32 0x7F800000#32
  let main_v6 : FVec F S1024x6144 .f32 := broadcastInDim S1024x6144 ![] bcast_S_S1024x6144 main_cst_0
  let main_v7 : IVec S1024x6144 1 := cmpf .olt main_v5 main_v6
  let main_v8 : IVec S1024x6144 1 := broadcastInDim S1024x6144 ![0, 1] bcast_S1024x1_S1024x6144_0_1 main_v3
  let main_v9 : IVec S1024x6144 1 := andi main_v8 main_v7
  main_v9
-- ==== Pre_gates_tame.lean ====
abbrev S16384x1024 : Shape := ⟨2, ![16384, 1024]⟩
abbrev S16384x128 : Shape := ⟨2, ![16384, 128]⟩
abbrev S16x1x6144 : Shape := ⟨3, ![16, 1, 6144]⟩
abbrev S1x64x1024x256 : Shape := ⟨4, ![1, 64, 1024, 256]⟩
abbrev S1x64x256x1024 : Shape := ⟨4, ![1, 64, 256, 1024]⟩
abbrev S1x1024x256 : Shape := ⟨3, ![1, 1024, 256]⟩
abbrev S1x256x1024 : Shape := ⟨3, ![1, 256, 1024]⟩
abbrev S1x1024 : Shape := ⟨2, ![1, 1024]⟩
abbrev S16384x64 : Shape := ⟨2, ![16384, 64]⟩
abbrev S_ : Shape := ⟨0, ![]⟩
abbrev S16384x1 : Shape := ⟨2, ![16384, 1]⟩

class Facts : Prop where
  slices_S16384x128_S16384x64_0_0 : S16384x128.Slices ![0, 0] S16384x64
  bcast_S_S16384x64 : S_.BroadcastsInDim S16384x64 (![] : Fin 0 → Fin S16384x64.rank)
  slices_S16384x128_S16384x1_0_64 : S16384x128.Slices ![0, 64] S16384x1
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)

variable [Facts]

def fn {F : FTy → Type} [FloatOps F] (main_arg0 : FVec F S16384x1024 .bf16) (main_arg1 : FVec F S16384x128 .f32) (main_arg2 : FVec F S16384x1024 .f32) (main_arg3 : FVec F S16x1x6144 .f32) (main_arg4 : FVec F S1x64x1024x256 .f32) (main_arg5 : FVec F S1x64x1024x256 .f32) (main_arg6 : FVec F S1x64x256x1024 .f32) (main_arg7 : FVec F S1x1024x256 .f32) (main_arg8 : FVec F S1x1024x256 .f32) (main_arg9 : FVec F S1x256x1024 .f32) (main_arg10 : FVec F S1x1024 .f32) : IVec S16384x64 1 :=
  let main_v0 : FVec F S16384x64 .f32 := (extractStridedSlice S16384x64 ![0, 0] · slices_S16384x128_S16384x64_0_0) main_arg1
  let main_cst : FVec F S_ .f32 := constant S_ .f32 0x00000000#32
  let main_v1 : FVec F S16384x64 .f32 := broadcastInDim S16384x64 ![] bcast_S_S16384x64 main_cst
  let main_v2 : IVec S16384x64 1 := cmpf .oge main_v0 main_v1
  let main_cst_0 : FVec F S_ .f32 := constant S_ .f32 0x7F800000#32
  let main_v3 : FVec F S16384x64 .f32 := broadcastInDim S16384x64 ![] bcast_S_S16384x64 main_cst_0
  let main_v4 : IVec S16384x64 1 := cmpf .olt main_v0 main_v3
  let main_v5 : IVec S16384x64 1 := andi main_v2 main_v4
  let main_v6 : FVec F S16384x1 .f32 := (extractStridedSlice S16384x1 ![0, 64] · slices_S16384x128_S16384x1_0_64) main_arg1
  let main_cst_1 : FVec F S_ .f32 := constant S_ .f32 0x3F800000#32
  let main_v7 : FVec F S16384x1 .f32 := broadcastInDim S16384x1 ![] bcast_S_S16384x1 main_cst_1
  let main_v8 : IVec S16384x1 1 := cmpf .oeq main_v6 main_v7
  let main_v9 : IVec S16384x64 1 := broadcastInDim S16384x64 ![0, 1] bcast_S16384x1_S16384x64_0_1 main_v8
  let main_v10 : IVec S16384x64 1 := andi main_v5 main_v9
  main_v10
-- ==== Pre_heads_tame.lean ====
abbrev S16384x1024 : Shape := ⟨2, ![16384, 1024]⟩
abbrev S16384x256 : Shape := ⟨2, ![16384, 256]⟩
abbrev S8x1x256x2x64 : Shape := ⟨5, ![8, 1, 256, 2, 64]⟩
abbrev S8x256x8x2x4x128 : Shape := ⟨6, ![8, 256, 8, 2, 4, 128]⟩
abbrev S8x256x8x2x1x128 : Shape := ⟨6, ![8, 256, 8, 2, 1, 128]⟩
abbrev S8x256x1x2x1x64 : Shape := ⟨6, ![8, 256, 1, 2, 1, 64]⟩
abbrev S8x256x8x2x4x64 : Shape := ⟨6, ![8, 256, 8, 2, 4, 64]⟩
abbrev S_ : Shape := ⟨0, ![]⟩
abbrev S8x256x8x2x1x64 : Shape := ⟨6, ![8, 256, 8, 2, 1, 64]⟩

class Facts : Prop where
  bitsLt_bf16_f32 : FTy.bits .bf16 < FTy.bits .f32
  shapeCasts_S16384x1024_S8x256x8x2x4x128 : S16384x1024.ShapeCasts S8x256x8x2x4x128
  shapeCasts_S16384x256_S8x256x8x2x1x128 : S16384x256.ShapeCasts S8x256x8x2x1x128
  shapeCasts_S8x1x256x2x64_S8x256x1x2x1x64 : S8x1x256x2x64.ShapeCasts S8x256x1x2x1x64
  slices_S8x256x8x2x4x128_S8x256x8x2x4x64_0_0_0_0_0_0 : S8x256x8x2x4x128.Slices ![0, 0, 0, 0, 0, 0] S8x256x8x2x4x64
  bcast_S_S8x256x8x2x4x64 : S_.BroadcastsInDim S8x256x8x2x4x64 (![] : Fin 0 → Fin S8x256x8x2x4x64.rank)
  slices_S8x256x8x2x4x128_S8x256x8x2x4x64_0_0_0_0_0_64 : S8x256x8x2x4x128.Slices ![0, 0, 0, 0, 0, 64] S8x256x8x2x4x64
  slices_S8x256x8x2x1x128_S8x256x8x2x1x64_0_0_0_0_0_0 : S8x256x8x2x1x128.Slices ![0, 0, 0, 0, 0, 0] S8x256x8x2x1x64
  bcast_S_S8x256x8x2x1x64 : S_.BroadcastsInDim S8x256x8x2x1x64 (![] : Fin 0 → Fin S8x256x8x2x1x64.rank)
  bcast_S8x256x8x2x1x64_S8x256x8x2x4x64_0_1_2_3_4_5 : S8x256x8x2x1x64.BroadcastsInDim S8x256x8x2x4x64 (![0, 1, 2, 3, 4, 5] : Fin 6 → Fin S8x256x8x2x4x64.rank)
  slices_S8x256x8x2x1x128_S8x256x8x2x1x64_0_0_0_0_0_64 : S8x256x8x2x1x128.Slices ![0, 0, 0, 0, 0, 64] S8x256x8x2x1x64
  bcast_S_S8x256x1x2x1x64 : S_.BroadcastsInDim S8x256x1x2x1x64 (![] : Fin 0 → Fin S8x256x1x2x1x64.rank)
  bcast_S8x256x1x2x1x64_S8x256x8x2x4x64_0_1_2_3_4_5 : S8x256x1x2x1x64.BroadcastsInDim S8x256x8x2x4x64 (![0, 1, 2, 3, 4, 5] : Fin 6 → Fin S8x256x8x2x4x64.rank)

variable [Facts]

def fn_part1 {F : FTy → Type} [FloatOps F] (main_v5 : FVec F S8x256x8x2x1x128 .f32) (main_v6 : FVec F S8x256x1x2x1x64 .f32) (main_v20 : IVec S8x256x8x2x4x64 1) : IVec S8x256x8x2x4x64 1 :=
  let main_v21 : FVec F S8x256x8x2x1x64 .f32 := (extractStridedSlice S8x256x8x2x1x64 ![0, 0, 0, 0, 0, 64] · slices_S8x256x8x2x1x128_S8x256x8x2x1x64_0_0_0_0_0_64) main_v5
  let main_cst_2 : FVec F S_ .f32 := constant S_ .f32 0x00000000#32
  let main_v22 : FVec F S8x256x8x2x1x64 .f32 := broadcastInDim S8x256x8x2x1x64 ![] bcast_S_S8x256x8x2x1x64 main_cst_2
  let main_v23 : IVec S8x256x8x2x1x64 1 := cmpf .oeq main_v21 main_v22
  let main_v24 : IVec S8x256x8x2x4x64 1 := broadcastInDim S8x256x8x2x4x64 ![0, 1, 2, 3, 4, 5] bcast_S8x256x8x2x1x64_S8x256x8x2x4x64_0_1_2_3_4_5 main_v23
  let main_v25 : IVec S8x256x8x2x4x64 1 := andi main_v20 main_v24
  let main_v26 : FVec F S8x256x1x2x1x64 .f32 := Host.absf main_v6
  let main_cst_3 : FVec F S_ .f32 := constant S_ .f32 0x7F800000#32
  let main_v27 : FVec F S8x256x1x2x1x64 .f32 := broadcastInDim S8x256x1x2x1x64 ![] bcast_S_S8x256x1x2x1x64 main_cst_3
  let main_v28 : IVec S8x256x1x2x1x64 1 := cmpf .olt main_v26 main_v27
  let main_v29 : IVec S8x256x8x2x4x64 1 := broadcastInDim S8x256x8x2x4x64 ![0, 1, 2, 3, 4, 5] bcast_S8x256x1x2x1x64_S8x256x8x2x4x64_0_1_2_3_4_5 main_v28
  let main_v30 : IVec S8x256x8x2x4x64 1 := andi main_v25 main_v29
  main_v30

def fn {F : FTy → Type} [FloatOps F] (main_arg0 : FVec F S16384x1024 .bf16) (main_arg1 : FVec F S16384x256 .bf16) (main_arg2 : FVec F S16384x256 .bf16) (main_arg3 : FVec F S8x1x256x2x64 .f32) (main_arg4 : FVec F S8x1x256x2x64 .f32) : IVec S8x256x8x2x4x64 1 :=
  let main_v0 : FVec F S16384x1024 .f32 := (extf .f32 · bitsLt_bf16_f32) main_arg0
  let main_v1 : FVec F S8x256x8x2x4x128 .f32 := shapeCast S8x256x8x2x4x128 main_v0 shapeCasts_S16384x1024_S8x256x8x2x4x128
  let main_v2 : FVec F S16384x256 .f32 := (extf .f32 · bitsLt_bf16_f32) main_arg1
  let main_v3 : FVec F S8x256x8x2x1x128 .f32 := shapeCast S8x256x8x2x1x128 main_v2 shapeCasts_S16384x256_S8x256x8x2x1x128
  let main_v4 : FVec F S16384x256 .f32 := (extf .f32 · bitsLt_bf16_f32) main_arg2
  let main_v5 : FVec F S8x256x8x2x1x128 .f32 := shapeCast S8x256x8x2x1x128 main_v4 shapeCasts_S16384x256_S8x256x8x2x1x128
  let main_v6 : FVec F S8x256x1x2x1x64 .f32 := shapeCast S8x256x1x2x1x64 main_arg3 shapeCasts_S8x1x256x2x64_S8x256x1x2x1x64
  let main_v7 : FVec F S8x256x8x2x4x64 .f32 := (extractStridedSlice S8x256x8x2x4x64 ![0, 0, 0, 0, 0, 0] · slices_S8x256x8x2x4x128_S8x256x8x2x4x64_0_0_0_0_0_0) main_v1
  let main_v8 : FVec F S8x256x8x2x4x64 .f32 := Host.absf main_v7
  let main_cst : FVec F S_ .f32 := constant S_ .f32 0x7F800000#32
  let main_v9 : FVec F S8x256x8x2x4x64 .f32 := broadcastInDim S8x256x8x2x4x64 ![] bcast_S_S8x256x8x2x4x64 main_cst
  let main_v10 : IVec S8x256x8x2x4x64 1 := cmpf .olt main_v8 main_v9
  let main_v11 : FVec F S8x256x8x2x4x64 .f32 := (extractStridedSlice S8x256x8x2x4x64 ![0, 0, 0, 0, 0, 64] · slices_S8x256x8x2x4x128_S8x256x8x2x4x64_0_0_0_0_0_64) main_v1
  let main_cst_0 : FVec F S_ .f32 := constant S_ .f32 0x00000000#32
  let main_v12 : FVec F S8x256x8x2x4x64 .f32 := broadcastInDim S8x256x8x2x4x64 ![] bcast_S_S8x256x8x2x4x64 main_cst_0
  let main_v13 : IVec S8x256x8x2x4x64 1 := cmpf .oeq main_v11 main_v12
  let main_v14 : IVec S8x256x8x2x4x64 1 := andi main_v10 main_v13
  let main_v15 : FVec F S8x256x8x2x1x64 .f32 := (extractStridedSlice S8x256x8x2x1x64 ![0, 0, 0, 0, 0, 0] · slices_S8x256x8x2x1x128_S8x256x8x2x1x64_0_0_0_0_0_0) main_v3
  let main_v16 : FVec F S8x256x8x2x1x64 .f32 := Host.absf main_v15
  let main_cst_1 : FVec F S_ .f32 := constant S_ .f32 0x7F800000#32
  let main_v17 : FVec F S8x256x8x2x1x64 .f32 := broadcastInDim S8x256x8x2x1x64 ![] bcast_S_S8x256x8x2x1x64 main_cst_1
  let main_v18 : IVec S8x256x8x2x1x64 1 := cmpf .olt main_v16 main_v17
  let main_v19 : IVec S8x256x8x2x4x64 1 := broadcastInDim S8x256x8x2x4x64 ![0, 1, 2, 3, 4, 5] bcast_S8x256x8x2x1x64_S8x256x8x2x4x64_0_1_2_3_4_5 main_v18
  let main_v20 : IVec S8x256x8x2x4x64 1 := andi main_v14 main_v19
  fn_part1 (F := F) main_v5 main_v6 main_v20
-- ==== Pre_mix_tame.lean ====
abbrev S16384x512 : Shape := ⟨2, ![16384, 512]⟩
abbrev S2x16384x512 : Shape := ⟨3, ![2, 16384, 512]⟩
abbrev S16384x1024 : Shape := ⟨2, ![16384, 1024]⟩
abbrev S16x1x6144 : Shape := ⟨3, ![16, 1, 6144]⟩
abbrev S1x512 : Shape := ⟨2, ![1, 512]⟩
abbrev S1x1024x1024 : Shape := ⟨3, ![1, 1024, 1024]⟩
abbrev S1x1024 : Shape := ⟨2, ![1, 1024]⟩
abbrev S1x1024x64 : Shape := ⟨3, ![1, 1024, 64]⟩
abbrev S1x64 : Shape := ⟨2, ![1, 64]⟩
abbrev S_ : Shape := ⟨0, ![]⟩

class Facts : Prop where
  bcast_S_S2x16384x512 : S_.BroadcastsInDim S2x16384x512 (![] : Fin 0 → Fin S2x16384x512.rank)

variable [Facts]

def fn {F : FTy → Type} [FloatOps F] (main_arg0 : FVec F S16384x512 .f32) (main_arg1 : FVec F S2x16384x512 .f32) (main_arg2 : FVec F S16384x512 .f32) (main_arg3 : FVec F S16384x512 .f32) (main_arg4 : FVec F S16384x1024 .f32) (main_arg5 : FVec F S16x1x6144 .f32) (main_arg6 : FVec F S1x512 .f32) (main_arg7 : FVec F S1x512 .f32) (main_arg8 : FVec F S1x1024x1024 .f32) (main_arg9 : FVec F S1x1024 .f32) (main_arg10 : FVec F S1x1024 .f32) (main_arg11 : FVec F S1x1024x64 .f32) (main_arg12 : FVec F S1x64 .f32) : IVec S2x16384x512 1 :=
  let main_v0 : FVec F S2x16384x512 .f32 := Host.absf main_arg1
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  main_v2
-- ==== Moe.lean ====
abbrev S16384x1024 : Shape := ⟨2, ![16384, 1024]⟩
abbrev S16384x128 : Shape := ⟨2, ![16384, 128]⟩
abbrev S16x1x6144 : Shape := ⟨3, ![16, 1, 6144]⟩
abbrev S1x64x1024x256 : Shape := ⟨4, ![1, 64, 1024, 256]⟩
abbrev S1x64x256x1024 : Shape := ⟨4, ![1, 64, 256, 1024]⟩
abbrev S1x1024x256 : Shape := ⟨3, ![1, 1024, 256]⟩
abbrev S1x256x1024 : Shape := ⟨3, ![1, 256, 1024]⟩
abbrev S1x1024 : Shape := ⟨2, ![1, 1024]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S65x1024x256 : Shape := ⟨3, ![65, 1024, 256]⟩
abbrev S65x256x1024 : Shape := ⟨3, ![65, 256, 1024]⟩
abbrev S1024 : Shape := ⟨1, ![1024]⟩
abbrev S1024x1024 : Shape := ⟨2, ![1024, 1024]⟩
abbrev S1024x128 : Shape := ⟨2, ![1024, 128]⟩
abbrev S1x1x6144 : Shape := ⟨3, ![1, 1, 6144]⟩
abbrev S128x128 : Shape := ⟨2, ![128, 128]⟩
abbrev S1x6144 : Shape := ⟨2, ![1, 6144]⟩
abbrev S1024x1 : Shape := ⟨2, ![1024, 1]⟩

abbrev nBuf : Space → Nat
  | .hbm => 29
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S16x1x6144, .f32⟩
  | .hbm, ⟨4, _⟩ => ⟨S1x64x1024x256, .f32⟩
  | .hbm, ⟨5, _⟩ => ⟨S1x64x1024x256, .f32⟩
  | .hbm, ⟨6, _⟩ => ⟨S1x64x256x1024, .f32⟩
  | .hbm, ⟨7, _⟩ => ⟨S1x1024x256, .f32⟩
  | .hbm, ⟨8, _⟩ => ⟨S1x1024x256, .f32⟩
  | .hbm, ⟨9, _⟩ => ⟨S1x256x1024, .f32⟩
  | .hbm, ⟨10, _⟩ => ⟨S1x1024, .f32⟩
  | .hbm, ⟨11, _⟩ => ⟨S64x1024x256, .f32⟩
  | .hbm, ⟨12, _⟩ => ⟨S64x1024x256, .f32⟩
  | .hbm, ⟨13, _⟩ => ⟨S64x256x1024, .f32⟩
  | .hbm, ⟨14, _⟩ => ⟨S1024x256, .f32⟩
  | .hbm, ⟨15, _⟩ => ⟨S1024x256, .f32⟩
  | .hbm, ⟨16, _⟩ => ⟨S256x1024, .f32⟩
  | .hbm, ⟨17, _⟩ => ⟨S1x1024x256, .f32⟩
  | .hbm, ⟨18, _⟩ => ⟨S65x1024x256, .f32⟩
  | .hbm, ⟨19, _⟩ => ⟨S65x1024x256, .bf16⟩
  | .hbm, ⟨20, _⟩ => ⟨S1x1024x256, .f32⟩
  | .hbm, ⟨21, _⟩ => ⟨S65x1024x256, .f32⟩
  | .hbm, ⟨22, _⟩ => ⟨S65x1024x256, .bf16⟩
  | .hbm, ⟨23, _⟩ => ⟨S1x256x1024, .f32⟩
  | .hbm, ⟨24, _⟩ => ⟨S65x256x1024, .f32⟩
  | .hbm, ⟨25, _⟩ => ⟨S65x256x1024, .bf16⟩
  | .hbm, ⟨26, _⟩ => ⟨S1024, .f32⟩
  | .hbm, ⟨27, _⟩ => ⟨S1x1024, .f32⟩
  | .hbm, ⟨28, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S1024x1024, .f32⟩
  | .local _ .vmem, ⟨11, _⟩ => ⟨S1024x1024, .f32⟩
  | .local _ .vmem, ⟨12, _⟩ => ⟨S1x1x6144, .f32⟩
  | .local _ .vmem, ⟨13, _⟩ => ⟨S1x1x6144, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 65], ![false, false]⟩

def k0_cond2 (i : grid0.Coords) : BitVec 1 :=
  let arg1 : BitVec 32 := BitVec.ofNat 32 (i 1).val
  let c64_i32 : BitVec 32 := 64#32
  let v38 : BitVec 1 := Scalar.cmpi .eq arg1 c64_i32
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MoeRefIdeal.lean ====
abbrev S16384x1024 : Shape := ⟨2, ![16384, 1024]⟩
abbrev S16384x128 : Shape := ⟨2, ![16384, 128]⟩
abbrev S16x1x6144 : Shape := ⟨3, ![16, 1, 6144]⟩
abbrev S1x64x1024x256 : Shape := ⟨4, ![1, 64, 1024, 256]⟩
abbrev S1x64x256x1024 : Shape := ⟨4, ![1, 64, 256, 1024]⟩
abbrev S1x1024x256 : Shape := ⟨3, ![1, 1024, 256]⟩
abbrev S1x256x1024 : Shape := ⟨3, ![1, 256, 1024]⟩
abbrev S1x1024 : Shape := ⟨2, ![1, 1024]⟩
abbrev S64x1024x256 : Shape := ⟨3, ![64, 1024, 256]⟩
abbrev S64x256x16384 : Shape := ⟨3, ![64, 256, 16384]⟩
abbrev S64x16384x256 : Shape := ⟨3, ![64, 16384, 256]⟩
abbrev S_ : Shape := ⟨0, ![]⟩
abbrev S64x256x1024 : Shape := ⟨3, ![64, 256, 1024]⟩
abbrev S64x16384x1024 : Shape := ⟨3, ![64, 16384, 1024]⟩
abbrev S16384x64 : Shape := ⟨2, ![16384, 64]⟩
abbrev S64x16384 : Shape := ⟨2, ![64, 16384]⟩
abbrev S64x16384x1 : Shape := ⟨3, ![64, 16384, 1]⟩
abbrev S1024x256 : Shape := ⟨2, ![1024, 256]⟩
abbrev S16384x256 : Shape := ⟨2, ![16384, 256]⟩
abbrev S256x1024 : Shape := ⟨2, ![256, 1024]⟩
abbrev S8x2048x1024 : Shape := ⟨3, ![8, 2048, 1024]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S8x1x6144 : Shape := ⟨3, ![8, 1, 6144]⟩
abbrev S8x1x1024 : Shape := ⟨3, ![8, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S16x1x6144, .f32⟩
  | .hbm, ⟨4, _⟩ => ⟨S1x64x1024x256, .f32⟩
  | .hbm, ⟨5, _⟩ => ⟨S1x64x1024x256, .f32⟩
  | .hbm, ⟨6, _⟩ => ⟨S1x64x256x1024, .f32⟩
  | .hbm, ⟨7, _⟩ => ⟨S1x1024x256, .f32⟩
  | .hbm, ⟨8, _⟩ => ⟨S1x1024x256, .f32⟩
  | .hbm, ⟨9, _⟩ => ⟨S1x256x1024, .f32⟩
  | .hbm, ⟨10, _⟩ => ⟨S1x1024, .f32⟩
  | .hbm, ⟨11, _⟩ => ⟨S16384x1024, .f32⟩
  | .hbm, ⟨12, _⟩ => ⟨S64x1024x256, .f32⟩
  | .hbm, ⟨13, _⟩ => ⟨S64x256x16384, .f32⟩
  | .hbm, ⟨14, _⟩ => ⟨S64x16384x256, .f32⟩
  | .hbm, ⟨15, _⟩ => ⟨S64x16384x256, .f32⟩
  | .hbm, ⟨16, _⟩ => ⟨S64x16384x256, .f32⟩
  | .hbm, ⟨17, _⟩ => ⟨S_, .f32⟩
  | .hbm, ⟨18, _⟩ => ⟨S64x16384x256, .f32⟩
  | .hbm, ⟨19, _⟩ => ⟨S64x16384x256, .f32⟩
  | .hbm, ⟨20, _⟩ => ⟨S_, .f32⟩
  | .hbm, ⟨21, _⟩ => ⟨S64x16384x256, .f32⟩
  | .hbm, ⟨22, _⟩ => ⟨S64x16384x256, .f32⟩
  | .hbm, ⟨23, _⟩ => ⟨S64x16384x256, .f32⟩
  | .hbm, ⟨24, _⟩ => ⟨S64x1024x256, .f32⟩
  | .hbm, ⟨25, _⟩ => ⟨S64x256x16384, .f32⟩
  | .hbm, ⟨26, _⟩ => ⟨S64x16384x256, .f32⟩
  | .hbm, ⟨27, _⟩ => ⟨S64x16384x256, .f32⟩
  | .hbm, ⟨28, _⟩ => ⟨S64x256x1024, .f32⟩
  | .hbm, ⟨29, _⟩ => ⟨S64x16384x1024, .f32⟩
  | .hbm, ⟨30, _⟩ => ⟨S16384x64, .f32⟩
  | .hbm, ⟨31, _⟩ => ⟨S64x16384, .f32⟩
  | .hbm, ⟨32, _⟩ => ⟨S64x16384x1, .f32⟩
  | .hbm, ⟨33, _⟩ => ⟨S64x16384x1024, .f32⟩
  | .hbm, ⟨34, _⟩ => ⟨S64x16384x1024, .f32⟩
  | .hbm, ⟨35, _⟩ => ⟨S_, .f32⟩
  | .hbm, ⟨36, _⟩ => ⟨S16384x1024, .f32⟩
  | .hbm, ⟨37, _⟩ => ⟨S1024x256, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S_, .f32⟩
  | .hbm, ⟨42, _⟩ => ⟨S16384x256, .f32⟩
  | .hbm, ⟨43, _⟩ => ⟨S16384x256, .f32⟩
  | .hbm, ⟨44, _⟩ => ⟨S_, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S1024x256, .f32⟩
  | .hbm, ⟨49, _⟩ => ⟨S16384x256, .f32⟩
  | .hbm, ⟨50, _⟩ => ⟨S16384x256, .f32⟩
  | .hbm, ⟨51, _⟩ => ⟨S256x1024, .f32⟩
  | .hbm, ⟨52, _⟩ => ⟨S16384x1024, .f32⟩
  | .hbm, ⟨53, _⟩ => ⟨S16384x1024, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048, .f32⟩
  | .hbm, ⟨58, _⟩ => ⟨S8x2048x1, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S8x2048x1, .f32⟩
  | .hbm, ⟨66, _⟩ => ⟨S8x2048x1024, .f32⟩
  | .hbm, ⟨67, _⟩ => ⟨S8x2048x1024, .f32⟩
  | .hbm, ⟨68, _⟩ => ⟨S1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | .hbm, ⟨72, _⟩ => ⟨S8x1x6144, .f32⟩
  | .hbm, ⟨73, _⟩ => ⟨S8x1x1024, .f32⟩
  | .hbm, ⟨74, _⟩ => ⟨S8x1x1024, .f32⟩
  | .hbm, ⟨75, _⟩ => ⟨S8x1x1024, .f32⟩
  | .hbm, ⟨76, _⟩ => ⟨S8x1x1024, .f32⟩
  | .hbm, ⟨77, _⟩ => ⟨S8x1x1024, .f32⟩
  | .hbm, ⟨78, _⟩ => ⟨S8x1x1024, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_0 : Ref sig .tc := ⟨.hbm, 56, rfl⟩
abbrev main_v28 : Ref sig .tc := ⟨.hbm, 57, rfl⟩
abbrev main_v29 : Ref sig .tc := ⟨.hbm, 58, rfl⟩
abbrev main_cst_1 : Ref sig .tc := ⟨.hbm, 59, rfl⟩
abbrev main_v30 : Ref sig .tc := ⟨.hbm, 60, rfl⟩
abbrev main_v31 : Ref sig .tc := ⟨.hbm, 61, rfl⟩
abbrev main_cst_2 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== Attn.lean ====
abbrev S16384x1024 : Shape := ⟨2, ![16384, 1024]⟩
abbrev S16384x256 : Shape := ⟨2, ![16384, 256]⟩
abbrev S8x1x256x2x64 : Shape := ⟨5, ![8, 1, 256, 2, 64]⟩
abbrev S8x256x2x64 : Shape := ⟨4, ![8, 256, 2, 64]⟩
abbrev S8x2048x256 : Shape := ⟨3, ![8, 2048, 256]⟩
abbrev S2048x128 : Shape := ⟨2, ![2048, 128]⟩
abbrev S2048x2x64 : Shape := ⟨3, ![2048, 2, 64]⟩
abbrev S_ : Shape := ⟨0, ![]⟩
abbrev S2048x2x128 : Shape := ⟨3, ![2048, 2, 128]⟩
abbrev S2048x256 : Shape := ⟨2, ![2048, 256]⟩
abbrev S8x256x256 : Shape := ⟨3, ![8, 256, 256]⟩
abbrev S8x2304x256 : Shape := ⟨3, ![8, 2304, 256]⟩
abbrev S16384x512 : Shape := ⟨2, ![16384, 512]⟩
abbrev S128x1024 : Shape := ⟨2, ![128, 1024]⟩
abbrev S1x2304x256 : Shape := ⟨3, ![1, 2304, 256]⟩
abbrev S128x512 : Shape := ⟨2, ![128, 512]⟩
abbrev S1x2304x128 : Shape := ⟨3, ![1, 2304, 128]⟩
abbrev S2304x128 : Shape := ⟨2, ![2304, 128]⟩
abbrev S128x128 : Shape := ⟨2, ![128, 128]⟩
abbrev S512x128 : Shape := ⟨2, ![512, 128]⟩
abbrev S512x2304 : Shape := ⟨2, ![512, 2304]⟩
abbrev S512 : Shape := ⟨1, ![512]⟩
abbrev S512x1 : Shape := ⟨2, ![512, 1]⟩

abbrev nBuf : Space → Nat
  | .hbm => 28
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S8x1x256x2x64, .f32⟩
  | .hbm, ⟨4, _⟩ => ⟨S8x1x256x2x64, .f32⟩
  | .hbm, ⟨5, _⟩ => ⟨S8x256x2x64, .f32⟩
  | .hbm, ⟨6, _⟩ => ⟨S8x256x2x64, .f32⟩
  | .hbm, ⟨7, _⟩ => ⟨S8x2048x256, .bf16⟩
  | .hbm, ⟨8, _⟩ => ⟨S8x2048x256, .bf16⟩
  | .hbm, ⟨9, _⟩ => ⟨S2048x128, .f32⟩
  | .hbm, ⟨10, _⟩ => ⟨S2048x2x64, .f32⟩
  | .hbm, ⟨11, _⟩ => ⟨S_, .i32⟩
  | .hbm, ⟨12, _⟩ => ⟨S_, .f32⟩
  | .hbm, ⟨13, _⟩ => ⟨S2048x2x128, .f32⟩
  | .hbm, ⟨14, _⟩ => ⟨S2048x256, .f32⟩
  | .hbm, ⟨15, _⟩ => ⟨S2048x256, .bf16⟩
  | .hbm, ⟨16, _⟩ => ⟨S8x256x256, .bf16⟩
  | .hbm, ⟨17, _⟩ => ⟨S8x2304x256, .bf16⟩
  | .hbm, ⟨18, _⟩ => ⟨S2048x128, .f32⟩
  | .hbm, ⟨19, _⟩ => ⟨S2048x2x64, .f32⟩
  | .hbm, ⟨20, _⟩ => ⟨S_, .i32⟩
  | .hbm, ⟨21, _⟩ => ⟨S_, .f32⟩
  | .hbm, ⟨22, _⟩ => ⟨S2048x2x128, .f32⟩
  | .hbm, ⟨23, _⟩ => ⟨S2048x256, .f32⟩
  | .hbm, ⟨24, _⟩ => ⟨S2048x256, .bf16⟩
  | .hbm, ⟨25, _⟩ => ⟨S8x256x256, .bf16⟩
  | .hbm, ⟨26, _⟩ => ⟨S8x2304x256, .bf16⟩
  | .hbm, ⟨27, _⟩ => ⟨S16384x512, .f32⟩
  | .local _ .vmem, ⟨0, _⟩ => ⟨S128x1024, .bf16⟩
  | .local _ .vmem, ⟨1, _⟩ => ⟨S128x1024, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x256, .bf16⟩
  | .local _ .vmem, ⟨5, _⟩ => ⟨S1x2304x256, .bf16⟩
  | .local _ .vmem, ⟨6, _⟩ => ⟨S128x512, .f32⟩
  | .local _ .vmem, ⟨7, _⟩ => ⟨S128x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnRefIdeal.lean ====
abbrev S16384x1024 : Shape := ⟨2, ![16384, 1024]⟩
abbrev S16384x256 : Shape := ⟨2, ![16384, 256]⟩
abbrev S8x1x256x2x64 : Shape := ⟨5, ![8, 1, 256, 2, 64]⟩
abbrev S8x2048x8x128 : Shape := ⟨4, ![8, 2048, 8, 128]⟩
abbrev S8x2048x8x64 : Shape := ⟨4, ![8, 2048, 8, 64]⟩
abbrev S8x2048x2x128 : Shape := ⟨4, ![8, 2048, 2, 128]⟩
abbrev S8x2048x2x64 : Shape := ⟨4, ![8, 2048, 2, 64]⟩
abbrev S8x256x2x64 : Shape := ⟨4, ![8, 256, 2, 64]⟩
abbrev S8x2304x2x64 : Shape := ⟨4, ![8, 2304, 2, 64]⟩
abbrev S8x2048x2x4x64 : Shape := ⟨5, ![8, 2048, 2, 4, 64]⟩
abbrev S8x2x2304x2048x4 : Shape := ⟨5, ![8, 2, 2304, 2048, 4]⟩
abbrev S8x2x4x2048x2304 : Shape := ⟨5, ![8, 2, 4, 2048, 2304]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S16384x512 : Shape := ⟨2, ![16384, 512]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S8x1x256x2x64, .f32⟩
  | .hbm, ⟨4, _⟩ => ⟨S8x1x256x2x64, .f32⟩
  | .hbm, ⟨5, _⟩ => ⟨S16384x1024, .f32⟩
  | .hbm, ⟨6, _⟩ => ⟨S8x2048x8x128, .f32⟩
  | .hbm, ⟨7, _⟩ => ⟨S8x2048x8x64, .f32⟩
  | .hbm, ⟨8, _⟩ => ⟨S16384x256, .f32⟩
  | .hbm, ⟨9, _⟩ => ⟨S8x2048x2x128, .f32⟩
  | .hbm, ⟨10, _⟩ => ⟨S8x2048x2x64, .f32⟩
  | .hbm, ⟨11, _⟩ => ⟨S16384x256, .f32⟩
  | .hbm, ⟨12, _⟩ => ⟨S8x2048x2x128, .f32⟩
  | .hbm, ⟨13, _⟩ => ⟨S8x2048x2x64, .f32⟩
  | .hbm, ⟨14, _⟩ => ⟨S8x256x2x64, .f32⟩
  | .hbm, ⟨15, _⟩ => ⟨S8x2304x2x64, .f32⟩
  | .hbm, ⟨16, _⟩ => ⟨S8x256x2x64, .f32⟩
  | .hbm, ⟨17, _⟩ => ⟨S8x2304x2x64, .f32⟩
  | .hbm, ⟨18, _⟩ => ⟨S8x2048x2x4x64, .f32⟩
  | .hbm, ⟨19, _⟩ => ⟨S8x2x2304x2048x4, .f32⟩
  | .hbm, ⟨20, _⟩ => ⟨S8x2x4x2048x2304, .f32⟩
  | .hbm, ⟨21, _⟩ => ⟨S_, .f32⟩
  | .hbm, ⟨22, _⟩ => ⟨S8x2x4x2048, .f32⟩
  | .hbm, ⟨23, _⟩ => ⟨S_, .f32⟩
  | .hbm, ⟨24, _⟩ => ⟨S8x2x4x2048, .f32⟩
  | .hbm, ⟨25, _⟩ => ⟨S8x2x4x2048, .f32⟩
  | .hbm, ⟨26, _⟩ => ⟨S8x2x4x2048x1, .f32⟩
  | .hbm, ⟨27, _⟩ => ⟨S8x2x4x2048x2304, .f32⟩
  | .hbm, ⟨28, _⟩ => ⟨S8x2x4x2048x2304, .f32⟩
  | .hbm, ⟨29, _⟩ => ⟨S8x2x4x2048x2304, .f32⟩
  | .hbm, ⟨30, _⟩ => ⟨S_, .f32⟩
  | .hbm, ⟨31, _⟩ => ⟨S8x2x4x2048, .f32⟩
  | .hbm, ⟨32, _⟩ => ⟨S8x2x4x2048x1, .f32⟩
  | .hbm, ⟨33, _⟩ => ⟨S8x2x4x2048x2304, .f32⟩
  | .hbm, ⟨34, _⟩ => ⟨S8x2x4x2048x2304, .f32⟩
  | .hbm, ⟨35, _⟩ => ⟨S8x2x64x4x2048, .f32⟩
  | .hbm, ⟨36, _⟩ => ⟨S8x2048x2x4x64, .f32⟩
  | .hbm, ⟨37, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Ctx.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S16x256x1024 : Shape := ⟨3, ![16, 256, 1024]⟩
abbrev S1x1024 : Shape := ⟨2, ![1, 1024]⟩
abbrev S1x1024x2688 : Shape := ⟨3, ![1, 1024, 2688]⟩
abbrev S1x64 : Shape := ⟨2, ![1, 64]⟩
abbrev S1024x6144 : Shape := ⟨2, ![1024, 6144]⟩
abbrev S6144 : Shape := ⟨1, ![6144]⟩
abbrev S1024x2688 : Shape := ⟨2, ![1024, 2688]⟩
abbrev S_ : Shape := ⟨0, ![]⟩
abbrev S16x1024 : Shape := ⟨2, ![16, 1024]⟩
abbrev S1 : Shape := ⟨1, ![1]⟩
abbrev S16x6144 : Shape := ⟨2, ![16, 6144]⟩
abbrev S1024x512 : Shape := ⟨2, ![1024, 512]⟩
abbrev S1x512 : Shape := ⟨2, ![1, 512]⟩
abbrev S16x512 : Shape := ⟨2, ![16, 512]⟩
abbrev S16x1x6144 : Shape := ⟨3, ![16, 1, 6144]⟩
abbrev S4096x1024 : Shape := ⟨2, ![4096, 1024]⟩
abbrev S1024x8x64 : Shape := ⟨3, ![1024, 8, 64]⟩
abbrev S1024x8x128 : Shape := ⟨3, ![1024, 8, 128]⟩
abbrev S1024x1024 : Shape := ⟨2, ![1024, 1024]⟩
abbrev S1024x128 : Shape := ⟨2, ![1024, 128]⟩
abbrev S1024x2x64 : Shape := ⟨3, ![1024, 2, 64]⟩
abbrev S1024x2x128 : Shape := ⟨3, ![1024, 2, 128]⟩
abbrev S1024x256 : Shape := ⟨2, ![1024, 256]⟩
abbrev S1024x1920 : Shape := ⟨2, ![1024, 1920]⟩
abbrev S64 : Shape := ⟨1, ![64]⟩
abbrev S128 : Shape := ⟨1, ![128]⟩
abbrev S1x128 : Shape := ⟨2, ![1, 128]⟩
abbrev S4096x128 : Shape := ⟨2, ![4096, 128]⟩
abbrev S4096x256 : Shape := ⟨2, ![4096, 256]⟩
abbrev S4096x1920 : Shape := ⟨2, ![4096, 1920]⟩
abbrev S256x1024 : Shape := ⟨2, ![256, 1024]⟩
abbrev S1x1x6144 : Shape := ⟨3, ![1, 1, 6144]⟩
abbrev S256x128 : Shape := ⟨2, ![256, 128]⟩
abbrev S256x256 : Shape := ⟨2, ![256, 256]⟩
abbrev S256x1920 : Shape := ⟨2, ![256, 1920]⟩
abbrev S256 : Shape := ⟨1, ![256]⟩
abbrev S256x1 : Shape := ⟨2, ![256, 1]⟩

abbrev nBuf : Space → Nat
  | .hbm => 68
  | .vmem => 29
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S16x256x1024, .f32⟩
  | .hbm, ⟨5, _⟩ => ⟨S1x1024, .f32⟩
  | .hbm, ⟨6, _⟩ => ⟨S1x1024x2688, .f32⟩
  | .hbm, ⟨7, _⟩ => ⟨S1x64, .f32⟩
  | .hbm, ⟨8, _⟩ => ⟨S1x64, .f32⟩
  | .hbm, ⟨9, _⟩ => ⟨S1024x6144, .f32⟩
  | .hbm, ⟨10, _⟩ => ⟨S6144, .f32⟩
  | .hbm, ⟨11, _⟩ => ⟨S1024x2688, .f32⟩
  | .hbm, ⟨12, _⟩ => ⟨S_, .f32⟩
  | .hbm, ⟨13, _⟩ => ⟨S16x1024, .f32⟩
  | .hbm, ⟨14, _⟩ => ⟨S_, .i32⟩
  | .hbm, ⟨15, _⟩ => ⟨S1, .i32⟩
  | .hbm, ⟨16, _⟩ => ⟨S16x1024, .f32⟩
  | .hbm, ⟨17, _⟩ => ⟨S_, .i32⟩
  | .hbm, ⟨18, _⟩ => ⟨S1, .i32⟩
  | .hbm, ⟨19, _⟩ => ⟨S16x1024, .f32⟩
  | .hbm, ⟨20, _⟩ => ⟨S1x6144, .f32⟩
  | .hbm, ⟨21, _⟩ => ⟨S16x6144, .f32⟩
  | .hbm, ⟨22, _⟩ => ⟨S16x1x6144, .f32⟩
  | .hbm, ⟨23, _⟩ => ⟨S4096x1024, .f32⟩
  | .hbm, ⟨24, _⟩ => ⟨S1024, .f32⟩
  | .hbm, ⟨25, _⟩ => ⟨S1x1024, .f32⟩
  | .hbm, ⟨26, _⟩ => ⟨S1024x512, .f32⟩
  | .hbm, ⟨27, _⟩ => ⟨S1024x8x64, .f32⟩
  | .hbm, ⟨28, _⟩ => ⟨S_, .i32⟩
  | .hbm, ⟨29, _⟩ => ⟨S_, .f32⟩
  | .hbm, ⟨30, _⟩ => ⟨S1024x8x128, .f32⟩
  | .hbm, ⟨31, _⟩ => ⟨S1024x1024, .f32⟩
  | .hbm, ⟨32, _⟩ => ⟨S1024x1024, .bf16⟩
  | .hbm, ⟨33, _⟩ => ⟨S1024x128, .f32⟩
  | .hbm, ⟨34, _⟩ => ⟨S1024x2x64, .f32⟩
  | .hbm, ⟨35, _⟩ => ⟨S_, .i32⟩
  | .hbm, ⟨36, _⟩ => ⟨S_, .f32⟩
  | .hbm, ⟨37, _⟩ => ⟨S1024x2x128, .f32⟩
  | .hbm, ⟨38, _⟩ => ⟨S1024x256, .f32⟩
  | .hbm, ⟨39, _⟩ => ⟨S1024x256, .bf16⟩
  | .hbm, ⟨40, _⟩ => ⟨S1024x128, .f32⟩
  | .hbm, ⟨41, _⟩ => ⟨S1024x2x64, .f32⟩
  | .hbm, ⟨42, _⟩ => ⟨S_, .i32⟩
  | .hbm, ⟨43, _⟩ => ⟨S_, .f32⟩
  | .hbm, ⟨44, _⟩ => ⟨S1024x2x128, .f32⟩
  | .hbm, ⟨45, _⟩ => ⟨S1024x256, .f32⟩
  | .hbm, ⟨46, _⟩ => ⟨S1024x256, .bf16⟩
  | .hbm, ⟨47, _⟩ => ⟨S1024x1920, .f32⟩
  | .hbm, ⟨48, _⟩ => ⟨S1024x1920, .bf16⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S64, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S4096x1024, .bf16⟩
  | .hbm, ⟨63, _⟩ => ⟨S4096x128, .f32⟩
  | .hbm, ⟨64, _⟩ => ⟨S4096x128, .f32⟩
  | .hbm, ⟨65, _⟩ => ⟨S4096x256, .bf16⟩
  | .hbm, ⟨66, _⟩ => ⟨S4096x256, .bf16⟩
  | .hbm, ⟨67, _⟩ => ⟨S4096x1920, .f32⟩
  | .local _ .vmem, ⟨0, _⟩ => ⟨S16x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | .local _ .vmem, ⟨7, _⟩ => ⟨S256x1024, .f32⟩
  | .local _ .vmem, ⟨8, _⟩ => ⟨S256x1024, .f32⟩
  | .local _ .vmem, ⟨9, _⟩ => ⟨S1x1x6144, .f32⟩
  | .local _ .vmem, ⟨10, _⟩ => ⟨S1x1024, .f32⟩
  | .local _ .vmem, ⟨11, _⟩ => ⟨S1024x1024, .bf16⟩
  | .local _ .vmem, ⟨12, _⟩ => ⟨S1024x256, .bf16⟩
  | .local _ .vmem, ⟨13, _⟩ => ⟨S1024x256, .bf16⟩
  | .local _ .vmem, ⟨14, _⟩ => ⟨S1024x1920, .bf16⟩
  | .local _ .vmem, ⟨15, _⟩ => ⟨S1x128, .f32⟩
  | .local _ .vmem, ⟨16, _⟩ => ⟨S1x128, .f32⟩
  | .local _ .vmem, ⟨17, _⟩ => ⟨S256x1024, .bf16⟩
  | .local _ .vmem, ⟨18, _⟩ => ⟨S256x1024, .bf16⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x256, .bf16⟩
  | .local _ .vmem, ⟨24, _⟩ => ⟨S256x256, .bf16⟩
  | .local _ .vmem, ⟨25, _⟩ => ⟨S256x256, .bf16⟩
  | .local _ .vmem, ⟨26, _⟩ => ⟨S256x256, .bf16⟩
  | .local _ .vmem, ⟨27, _⟩ => ⟨S256x1920, .f32⟩
  | .local _ .vmem, ⟨28, _⟩ => ⟨S256x1920, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_call2_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_call3_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_call4_v0 : Ref sig .tc := ⟨.hbm, 59, rfl⟩
abbrev main_v37 : Ref sig .tc := ⟨.hbm, 60, rfl⟩
abbrev main_v38 : Ref sig .tc := ⟨.hbm, 61, rfl⟩
abbrev main_v39_0 : Ref sig .tc := ⟨.hbm, 62, rfl⟩
abbrev main_v39_1 : Ref sig .tc := ⟨.hbm, 63, rfl⟩
abbrev main_v39_2 : Ref sig .tc := ⟨.hbm, 64, rfl⟩
abbrev main_v39_3 : Ref sig .tc := ⟨.hbm, 65, rfl⟩
abbrev main_v39_4 : Ref sig .tc := ⟨.hbm, 66, rfl⟩
abbrev main_v39_5 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg11_1 : Ref sig .tc := ⟨.vmem, 22, rfl⟩
abbrev cc1_stg12_0 : Ref sig .tc := ⟨.vmem, 23, rfl⟩
abbrev cc1_stg12_1 : Ref sig .tc := ⟨.vmem, 24, rfl⟩
abbrev cc1_stg13_0 : Ref sig .tc := ⟨.vmem, 25, rfl⟩
abbrev cc1_stg13_1 : Ref sig .tc := ⟨.vmem, 26, rfl⟩
abbrev cc1_stg14_0 : Ref sig .tc := ⟨.vmem, 27, rfl⟩
abbrev cc1_stg14_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20
abbrev cc1_sem11_0 : DmaSem sig := 21
abbrev cc1_sem11_1 : DmaSem sig := 22
abbrev cc1_sem12_0 : DmaSem sig := 23
abbrev cc1_sem12_1 : DmaSem sig := 24
abbrev cc1_sem13_0 : DmaSem sig := 25
abbrev cc1_sem13_1 : DmaSem sig := 26
abbrev cc1_sem14_0 : DmaSem sig := 27
abbrev cc1_sem14_1 : DmaSem sig := 28

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x6144 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1920 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x256 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x1920 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== CtxRefIdeal.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S16x256x1024 : Shape := ⟨3, ![16, 256, 1024]⟩
abbrev S1x1024 : Shape := ⟨2, ![1, 1024]⟩
abbrev S1x1024x2688 : Shape := ⟨3, ![1, 1024, 2688]⟩
abbrev S1x64 : Shape := ⟨2, ![1, 64]⟩
abbrev S_ : Shape := ⟨0, ![]⟩
abbrev S1024x6144 : Shape := ⟨2, ![1024, 6144]⟩
abbrev S6144 : Shape := ⟨1, ![6144]⟩
abbrev S16x256 : Shape := ⟨2, ![16, 256]⟩
abbrev S16x256x1 : Shape := ⟨3, ![16, 256, 1]⟩
abbrev S1x1x1024 : Shape := ⟨3, ![1, 1, 1024]⟩
abbrev S1024x2688 : Shape := ⟨2, ![1024, 2688]⟩
abbrev S16x256x2688 : Shape := ⟨3, ![16, 256, 2688]⟩
abbrev S16x256x128 : Shape := ⟨3, ![16, 256, 128]⟩
abbrev S16x256x2x64 : Shape := ⟨4, ![16, 256, 2, 64]⟩
abbrev S16x256x2 : Shape := ⟨3, ![16, 256, 2]⟩
abbrev S16x256x2x1 : Shape := ⟨4, ![16, 256, 2, 1]⟩
abbrev S64 : Shape := ⟨1, ![64]⟩
abbrev S1x1x1x64 : Shape := ⟨4, ![1, 1, 1, 64]⟩
abbrev S4096x128 : Shape := ⟨2, ![4096, 128]⟩
abbrev S16x256x1920 : Shape := ⟨3, ![16, 256, 1920]⟩
abbrev S4096x1920 : Shape := ⟨2, ![4096, 1920]⟩
abbrev S16x256x512 : Shape := ⟨3, ![16, 256, 512]⟩
abbrev S16x256x8x64 : Shape := ⟨4, ![16, 256, 8, 64]⟩
abbrev S16x256x8 : Shape := ⟨3, ![16, 256, 8]⟩
abbrev S16x256x8x1 : Shape := ⟨4, ![16, 256, 8, 1]⟩
abbrev S16x256x8x128 : Shape := ⟨4, ![16, 256, 8, 128]⟩
abbrev S16x256x2x128 : Shape := ⟨4, ![16, 256, 2, 128]⟩
abbrev S4096x1024 : Shape := ⟨2, ![4096, 1024]⟩
abbrev S4096x256 : Shape := ⟨2, ![4096, 256]⟩

abbrev nBuf : Space → Nat
  | .hbm => 115
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S16x256x1024, .f32⟩
  | .hbm, ⟨5, _⟩ => ⟨S1x1024, .f32⟩
  | .hbm, ⟨6, _⟩ => ⟨S1x1024x2688, .f32⟩
  | .hbm, ⟨7, _⟩ => ⟨S1x64, .f32⟩
  | .hbm, ⟨8, _⟩ => ⟨S1x64, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024x6144, .f32⟩
  | .hbm, ⟨19, _⟩ => ⟨S6144, .f32⟩
  | .hbm, ⟨20, _⟩ => ⟨S6144, .f32⟩
  | .hbm, ⟨21, _⟩ => ⟨S6144, .f32⟩
  | .hbm, ⟨22, _⟩ => ⟨S1024, .f32⟩
  | .hbm, ⟨23, _⟩ => ⟨S1024, .f32⟩
  | .hbm, ⟨24, _⟩ => ⟨S16x256x1024, .f32⟩
  | .hbm, ⟨25, _⟩ => ⟨S_, .f32⟩
  | .hbm, ⟨26, _⟩ => ⟨S16x256, .f32⟩
  | .hbm, ⟨27, _⟩ => ⟨S16x256x1, .f32⟩
  | .hbm, ⟨28, _⟩ => ⟨S_, .f32⟩
  | .hbm, ⟨29, _⟩ => ⟨S16x256x1, .f32⟩
  | .hbm, ⟨30, _⟩ => ⟨S16x256x1, .f32⟩
  | .hbm, ⟨31, _⟩ => ⟨S_, .f32⟩
  | .hbm, ⟨32, _⟩ => ⟨S16x256x1, .f32⟩
  | .hbm, ⟨33, _⟩ => ⟨S16x256x1, .f32⟩
  | .hbm, ⟨34, _⟩ => ⟨S16x256x1, .f32⟩
  | .hbm, ⟨35, _⟩ => ⟨S16x256x1024, .f32⟩
  | .hbm, ⟨36, _⟩ => ⟨S16x256x1024, .f32⟩
  | .hbm, ⟨37, _⟩ => ⟨S1024, .f32⟩
  | .hbm, ⟨38, _⟩ => ⟨S1x1x1024, .f32⟩
  | .hbm, ⟨39, _⟩ => ⟨S16x256x1024, .f32⟩
  | .hbm, ⟨40, _⟩ => ⟨S16x256x1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1x1x1024, .f32⟩
  | .hbm, ⟨45, _⟩ => ⟨S16x256x1024, .f32⟩
  | .hbm, ⟨46, _⟩ => ⟨S16x256x1024, .f32⟩
  | .hbm, ⟨47, _⟩ => ⟨S1x1x1024, .f32⟩
  | .hbm, ⟨48, _⟩ => ⟨S16x256x1024, .f32⟩
  | .hbm, ⟨49, _⟩ => ⟨S16x256x1024, .f32⟩
  | .hbm, ⟨50, _⟩ => ⟨S1024x2688, .f32⟩
  | .hbm, ⟨51, _⟩ => ⟨S16x256x2688, .f32⟩
  | .hbm, ⟨52, _⟩ => ⟨S16x256x128, .f32⟩
  | .hbm, ⟨53, _⟩ => ⟨S16x256x2x64, .f32⟩
  | .hbm, ⟨54, _⟩ => ⟨S16x256x2x64, .f32⟩
  | .hbm, ⟨55, _⟩ => ⟨S_, .f32⟩
  | .hbm, ⟨56, _⟩ => ⟨S16x256x2, .f32⟩
  | .hbm, ⟨57, _⟩ => ⟨S16x256x2x1, .f32⟩
  | .hbm, ⟨58, _⟩ => ⟨S_, .f32⟩
  | .hbm, ⟨59, _⟩ => ⟨S16x256x2x1, .f32⟩
  | .hbm, ⟨60, _⟩ => ⟨S16x256x2x1, .f32⟩
  | .hbm, ⟨61, _⟩ => ⟨S_, .f32⟩
  | .hbm, ⟨62, _⟩ => ⟨S16x256x2x1, .f32⟩
  | .hbm, ⟨63, _⟩ => ⟨S16x256x2x1, .f32⟩
  | .hbm, ⟨64, _⟩ => ⟨S16x256x2x1, .f32⟩
  | .hbm, ⟨65, _⟩ => ⟨S16x256x2x64, .f32⟩
  | .hbm, ⟨66, _⟩ => ⟨S16x256x2x64, .f32⟩
  | .hbm, ⟨67, _⟩ => ⟨S64, .f32⟩
  | .hbm, ⟨68, _⟩ => ⟨S1x1x1x64, .f32⟩
  | .hbm, ⟨69, _⟩ => ⟨S16x256x2x64, .f32⟩
  | .hbm, ⟨70, _⟩ => ⟨S16x256x2x64, .f32⟩
  | .hbm, ⟨71, _⟩ => ⟨S4096x128, .f32⟩
  | .hbm, ⟨72, _⟩ => ⟨S16x256x128, .f32⟩
  | .hbm, ⟨73, _⟩ => ⟨S4096x128, .f32⟩
  | .hbm, ⟨74, _⟩ => ⟨S16x256x1920, .f32⟩
  | .hbm, ⟨75, _⟩ => ⟨S4096x1920, .f32⟩
  | .hbm, ⟨76, _⟩ => ⟨S16x256x512, .f32⟩
  | .hbm, ⟨77, _⟩ => ⟨S16x256x8x64, .f32⟩
  | .hbm, ⟨78, _⟩ => ⟨S16x256x8x64, .f32⟩
  | .hbm, ⟨79, _⟩ => ⟨S_, .f32⟩
  | .hbm, ⟨80, _⟩ => ⟨S16x256x8, .f32⟩
  | .hbm, ⟨81, _⟩ => ⟨S16x256x8x1, .f32⟩
  | .hbm, ⟨82, _⟩ => ⟨S_, .f32⟩
  | .hbm, ⟨83, _⟩ => ⟨S16x256x8x1, .f32⟩
  | .hbm, ⟨84, _⟩ => ⟨S16x256x8x1, .f32⟩
  | .hbm, ⟨85, _⟩ => ⟨S_, .f32⟩
  | .hbm, ⟨86, _⟩ => ⟨S16x256x8x1, .f32⟩
  | .hbm, ⟨87, _⟩ => ⟨S16x256x8x1, .f32⟩
  | .hbm, ⟨88, _⟩ => ⟨S16x256x8x1, .f32⟩
  | .hbm, ⟨89, _⟩ => ⟨S16x256x8x64, .f32⟩
  | .hbm, ⟨90, _⟩ => ⟨S16x256x8x64, .f32⟩
  | .hbm, ⟨91, _⟩ => ⟨S64, .f32⟩
  | .hbm, ⟨92, _⟩ => ⟨S1x1x1x64, .f32⟩
  | .hbm, ⟨93, _⟩ => ⟨S16x256x8x64, .f32⟩
  | .hbm, ⟨94, _⟩ => ⟨S16x256x8x64, .f32⟩
  | .hbm, ⟨95, _⟩ => ⟨S_, .f32⟩
  | .hbm, ⟨96, _⟩ => ⟨S16x256x8x64, .f32⟩
  | .hbm, ⟨97, _⟩ => ⟨S16x256x8x64, .f32⟩
  | .hbm, ⟨98, _⟩ => ⟨S16x256x128, .f32⟩
  | .hbm, ⟨99, _⟩ => ⟨S16x256x2x64, .f32⟩
  | .hbm, ⟨100, _⟩ => ⟨S_, .i32⟩
  | .hbm, ⟨101, _⟩ => ⟨S_, .f32⟩
  | .hbm, ⟨102, _⟩ => ⟨S16x256x8x128, .f32⟩
  | .hbm, ⟨103, _⟩ => ⟨S16x256x8x128, .bf16⟩
  | .hbm, ⟨104, _⟩ => ⟨S_, .i32⟩
  | .hbm, ⟨105, _⟩ => ⟨S_, .f32⟩
  | .hbm, ⟨106, _⟩ => ⟨S16x256x2x128, .f32⟩
  | .hbm, ⟨107, _⟩ => ⟨S16x256x2x128, .bf16⟩
  | .hbm, ⟨108, _⟩ => ⟨S_, .i32⟩
  | .hbm, ⟨109, _⟩ => ⟨S_, .f32⟩
  | .hbm, ⟨110, _⟩ => ⟨S16x256x2x128, .f32⟩
  | .hbm, ⟨111, _⟩ => ⟨S16x256x2x128, .bf16⟩
  | .hbm, ⟨112, _⟩ => ⟨S4096x1024, .bf16⟩
  | .hbm, ⟨113, _⟩ => ⟨S4096x256, .bf16⟩
  | .hbm, ⟨114, _⟩ => ⟨S4096x256, .bf16⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c : Ref sig .tc := ⟨.hbm, 100, rfl⟩
abbrev main_call1_v0 : Ref sig .tc := ⟨.hbm, 101, rfl⟩
abbrev main_v72 : Ref sig .tc := ⟨.hbm, 102, rfl⟩
abbrev main_v73 : Ref sig .tc := ⟨.hbm, 103, rfl⟩
abbrev main_c_10 : Ref sig .tc := ⟨.hbm, 104, rfl⟩
abbrev main_call2_v0 : Ref sig .tc := ⟨.hbm, 105, rfl⟩
abbrev main_v74 : Ref sig .tc := ⟨.hbm, 106, rfl⟩
abbrev main_v75 : Ref sig .tc := ⟨.hbm, 107, rfl⟩
abbrev main_c_11 : Ref sig .tc := ⟨.hbm, 108, rfl⟩
abbrev main_call3_v0 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩

abbrev nD : Nat := 1
abbrev τ : Topo := Topo.v7x

variable {F : FTy → Type} [FloatOps F]
-- ==== Mix.lean ====
abbrev S16384x512 : Shape := ⟨2, ![16384, 512]⟩
abbrev S2x16384x512 : Shape := ⟨3, ![2, 16384, 512]⟩
abbrev S16384x1024 : Shape := ⟨2, ![16384, 1024]⟩
abbrev S16x1x6144 : Shape := ⟨3, ![16, 1, 6144]⟩
abbrev S1x512 : Shape := ⟨2, ![1, 512]⟩
abbrev S1x1024x1024 : Shape := ⟨3, ![1, 1024, 1024]⟩
abbrev S1x1024 : Shape := ⟨2, ![1, 1024]⟩
abbrev S1x1024x64 : Shape := ⟨3, ![1, 1024, 64]⟩
abbrev S1x64 : Shape := ⟨2, ![1, 64]⟩
abbrev S512 : Shape := ⟨1, ![512]⟩
abbrev S_ : Shape := ⟨0, ![]⟩
abbrev S512x1 : Shape := ⟨2, ![512, 1]⟩
abbrev S512x512 : Shape := ⟨2, ![512, 512]⟩
abbrev S1024x1024 : Shape := ⟨2, ![1024, 1024]⟩
abbrev S1024 : Shape := ⟨1, ![1024]⟩
abbrev S1024x64 : Shape := ⟨2, ![1024, 64]⟩
abbrev S64x1024 : Shape := ⟨2, ![64, 1024]⟩
abbrev S64 : Shape := ⟨1, ![64]⟩
abbrev S64x1 : Shape := ⟨2, ![64, 1]⟩
abbrev S16384x128 : Shape := ⟨2, ![16384, 128]⟩
abbrev S2x512x512 : Shape := ⟨3, ![2, 512, 512]⟩
abbrev S512x1024 : Shape := ⟨2, ![512, 1024]⟩
abbrev S1x1x6144 : Shape := ⟨3, ![1, 1, 6144]⟩
abbrev S512x128 : Shape := ⟨2, ![512, 128]⟩
abbrev S1x512x512 : Shape := ⟨3, ![1, 512, 512]⟩
abbrev S1x6144 : Shape := ⟨2, ![1, 6144]⟩
abbrev S64x512 : Shape := ⟨2, ![64, 512]⟩
abbrev S8x8x512 : Shape := ⟨3, ![8, 8, 512]⟩
abbrev S8x512 : Shape := ⟨2, ![8, 512]⟩
abbrev S8x1x512 : Shape := ⟨3, ![8, 1, 512]⟩
abbrev S1x1x512 : Shape := ⟨3, ![1, 1, 512]⟩
abbrev S128x512 : Shape := ⟨2, ![128, 512]⟩

abbrev nBuf : Space → Nat
  | .hbm => 55
  | .vmem => 26
  | .smem => 0
  | _ => 0

abbrev bufTy : (tb : Table) → Fin (tcTables nBuf tb) → BufTy
  | .hbm, ⟨0, _⟩ => ⟨S16384x512, .f32⟩
  | .hbm, ⟨1, _⟩ => ⟨S2x16384x512, .f32⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S16x1x6144, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x64, .f32⟩
  | .hbm, ⟨12, _⟩ => ⟨S1x64, .f32⟩
  | .hbm, ⟨13, _⟩ => ⟨S512, .i32⟩
  | .hbm, ⟨14, _⟩ => ⟨S_, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S1x512, .i32⟩
  | .hbm, ⟨34, _⟩ => ⟨S512x512, .i32⟩
  | .hbm, ⟨35, _⟩ => ⟨S512x512, .i32⟩
  | .hbm, ⟨36, _⟩ => ⟨S512x512, .i1⟩
  | .hbm, ⟨37, _⟩ => ⟨S512x512, .bf16⟩
  | .hbm, ⟨38, _⟩ => ⟨S512, .f32⟩
  | .hbm, ⟨39, _⟩ => ⟨S1x512, .f32⟩
  | .hbm, ⟨40, _⟩ => ⟨S512, .f32⟩
  | .hbm, ⟨41, _⟩ => ⟨S1x512, .f32⟩
  | .hbm, ⟨42, _⟩ => ⟨S1024x1024, .f32⟩
  | .hbm, ⟨43, _⟩ => ⟨S1024x1024, .bf16⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1024x64, .f32⟩
  | .hbm, ⟨49, _⟩ => ⟨S64x1024, .f32⟩
  | .hbm, ⟨50, _⟩ => ⟨S64, .f32⟩
  | .hbm, ⟨51, _⟩ => ⟨S64x1, .f32⟩
  | .hbm, ⟨52, _⟩ => ⟨S16384x1024, .f32⟩
  | .hbm, ⟨53, _⟩ => ⟨S16384x1024, .bf16⟩
  | .hbm, ⟨54, _⟩ => ⟨S16384x128, .f32⟩
  | .local _ .vmem, ⟨0, _⟩ => ⟨S512x512, .f32⟩
  | .local _ .vmem, ⟨1, _⟩ => ⟨S512x512, .f32⟩
  | .local _ .vmem, ⟨2, _⟩ => ⟨S2x512x512, .f32⟩
  | .local _ .vmem, ⟨3, _⟩ => ⟨S2x512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1x1x6144, .f32⟩
  | .local _ .vmem, ⟨11, _⟩ => ⟨S1x1x6144, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S64x1024, .f32⟩
  | .local _ .vmem, ⟨19, _⟩ => ⟨S64x1, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x128, .f32⟩
  | .local _ .vmem, ⟨25, _⟩ => ⟨S512x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22_0 : Ref sig .tc := ⟨.hbm, 52, rfl⟩
abbrev main_v22_1 : Ref sig .tc := ⟨.hbm, 53, rfl⟩
abbrev main_v22_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixRefIdeal.lean ====
abbrev S16384x512 : Shape := ⟨2, ![16384, 512]⟩
abbrev S2x16384x512 : Shape := ⟨3, ![2, 16384, 512]⟩
abbrev S16384x1024 : Shape := ⟨2, ![16384, 1024]⟩
abbrev S16x1x6144 : Shape := ⟨3, ![16, 1, 6144]⟩
abbrev S1x512 : Shape := ⟨2, ![1, 512]⟩
abbrev S1x1024x1024 : Shape := ⟨3, ![1, 1024, 1024]⟩
abbrev S1x1024 : Shape := ⟨2, ![1, 1024]⟩
abbrev S1x1024x64 : Shape := ⟨3, ![1, 1024, 64]⟩
abbrev S1x64 : Shape := ⟨2, ![1, 64]⟩
abbrev S1x16384x512 : Shape := ⟨3, ![1, 16384, 512]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S512 : Shape := ⟨1, ![512]⟩
abbrev S1024x1024 : Shape := ⟨2, ![1024, 1024]⟩
abbrev S8x1x6144 : Shape := ⟨3, ![8, 1, 6144]⟩
abbrev S8x1x1024 : Shape := ⟨3, ![8, 1, 1024]⟩
abbrev S16384 : Shape := ⟨1, ![16384]⟩
abbrev S16384x1 : Shape := ⟨2, ![16384, 1]⟩
abbrev S1024 : Shape := ⟨1, ![1024]⟩
abbrev S8x2048x1024 : Shape := ⟨3, ![8, 2048, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2x16384x512, .f32⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S16x1x6144, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x64, .f32⟩
  | .hbm, ⟨12, _⟩ => ⟨S1x64, .f32⟩
  | .hbm, ⟨13, _⟩ => ⟨S1x16384x512, .f32⟩
  | .hbm, ⟨14, _⟩ => ⟨S16384x512, .f32⟩
  | .hbm, ⟨15, _⟩ => ⟨S1x16384x512, .f32⟩
  | .hbm, ⟨16, _⟩ => ⟨S16384x512, .f32⟩
  | .hbm, ⟨17, _⟩ => ⟨S16384x512, .f32⟩
  | .hbm, ⟨18, _⟩ => ⟨S16384x8x64, .f32⟩
  | .hbm, ⟨19, _⟩ => ⟨S_, .f32⟩
  | .hbm, ⟨20, _⟩ => ⟨S16384x8, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S16384x8x64, .f32⟩
  | .hbm, ⟨26, _⟩ => ⟨S16384x8x64, .f32⟩
  | .hbm, ⟨27, _⟩ => ⟨S16384x8x64, .f32⟩
  | .hbm, ⟨28, _⟩ => ⟨S16384x8x64, .f32⟩
  | .hbm, ⟨29, _⟩ => ⟨S16384x8x64, .f32⟩
  | .hbm, ⟨30, _⟩ => ⟨S_, .f32⟩
  | .hbm, ⟨31, _⟩ => ⟨S16384x8, .f32⟩
  | .hbm, ⟨32, _⟩ => ⟨S16384x8x1, .f32⟩
  | .hbm, ⟨33, _⟩ => ⟨S_, .f32⟩
  | .hbm, ⟨34, _⟩ => ⟨S16384x8x1, .f32⟩
  | .hbm, ⟨35, _⟩ => ⟨S16384x8x1, .f32⟩
  | .hbm, ⟨36, _⟩ => ⟨S16384x8x64, .f32⟩
  | .hbm, ⟨37, _⟩ => ⟨S16384x8x64, .f32⟩
  | .hbm, ⟨38, _⟩ => ⟨S_, .f32⟩
  | .hbm, ⟨39, _⟩ => ⟨S16384x8x1, .f32⟩
  | .hbm, ⟨40, _⟩ => ⟨S16384x8x1, .f32⟩
  | .hbm, ⟨41, _⟩ => ⟨S16384x8x1, .f32⟩
  | .hbm, ⟨42, _⟩ => ⟨S16384x8x64, .f32⟩
  | .hbm, ⟨43, _⟩ => ⟨S16384x8x64, .f32⟩
  | .hbm, ⟨44, _⟩ => ⟨S16384x512, .f32⟩
  | .hbm, ⟨45, _⟩ => ⟨S512, .f32⟩
  | .hbm, ⟨46, _⟩ => ⟨S1x512, .f32⟩
  | .hbm, ⟨47, _⟩ => ⟨S16384x512, .f32⟩
  | .hbm, ⟨48, _⟩ => ⟨S16384x512, .f32⟩
  | .hbm, ⟨49, _⟩ => ⟨S512, .f32⟩
  | .hbm, ⟨50, _⟩ => ⟨S1x512, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x1024, .f32⟩
  | .hbm, ⟨56, _⟩ => ⟨S1024x1024, .f32⟩
  | .hbm, ⟨57, _⟩ => ⟨S16384x1024, .f32⟩
  | .hbm, ⟨58, _⟩ => ⟨S8x1x6144, .f32⟩
  | .hbm, ⟨59, _⟩ => ⟨S8x1x1024, .f32⟩
  | .hbm, ⟨60, _⟩ => ⟨S8x1x1024, .f32⟩
  | .hbm, ⟨61, _⟩ => ⟨S8x1x1024, .f32⟩
  | .hbm, ⟨62, _⟩ => ⟨S8x1x1024, .f32⟩
  | .hbm, ⟨63, _⟩ => ⟨S8x1x1024, .f32⟩
  | .hbm, ⟨64, _⟩ => ⟨S8x1x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | .hbm, ⟨87, _⟩ => ⟨S8x2048x1024, .f32⟩
  | .hbm, ⟨88, _⟩ => ⟨S_, .f32⟩
  | .hbm, ⟨89, _⟩ => ⟨S8x2048, .f32⟩
  | .hbm, ⟨90, _⟩ => ⟨S8x2048x1, .f32⟩
  | .hbm, ⟨91, _⟩ => ⟨S_, .f32⟩
  | .hbm, ⟨92, _⟩ => ⟨S8x2048x1, .f32⟩
  | .hbm, ⟨93, _⟩ => ⟨S8x2048x1, .f32⟩
  | .hbm, ⟨94, _⟩ => ⟨S_, .f32⟩
  | .hbm, ⟨95, _⟩ => ⟨S8x2048x1, .f32⟩
  | .hbm, ⟨96, _⟩ => ⟨S8x2048x1, .f32⟩
  | .hbm, ⟨97, _⟩ => ⟨S8x2048x1, .f32⟩
  | .hbm, ⟨98, _⟩ => ⟨S8x2048x1024, .f32⟩
  | .hbm, ⟨99, _⟩ => ⟨S8x2048x1024, .f32⟩
  | .hbm, ⟨100, _⟩ => ⟨S1024, .f32⟩
  | .hbm, ⟨101, _⟩ => ⟨S1x1x1024, .f32⟩
  | .hbm, ⟨102, _⟩ => ⟨S8x2048x1024, .f32⟩
  | .hbm, ⟨103, _⟩ => ⟨S8x2048x1024, .f32⟩
  | .hbm, ⟨104, _⟩ => ⟨S_, .f32⟩
  | .hbm, ⟨105, _⟩ => ⟨S8x1x1024, .f32⟩
  | .hbm, ⟨106, _⟩ => ⟨S8x1x1024, .f32⟩
  | .hbm, ⟨107, _⟩ => ⟨S8x2048x1024, .f32⟩
  | .hbm, ⟨108, _⟩ => ⟨S8x2048x1024, .f32⟩
  | .hbm, ⟨109, _⟩ => ⟨S8x2048x1024, .f32⟩
  | .hbm, ⟨110, _⟩ => ⟨S8x2048x1024, .f32⟩
  | .hbm, ⟨111, _⟩ => ⟨S16384x1024, .f32⟩
  | .hbm, ⟨112, _⟩ => ⟨S16384x1024, .f32⟩
  | .hbm, ⟨113, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_cst_8 : Ref sig .tc := ⟨.hbm, 91, rfl⟩
abbrev main_v69 : Ref sig .tc := ⟨.hbm, 92, rfl⟩
abbrev main_v70 : Ref sig .tc := ⟨.hbm, 93, rfl⟩
abbrev main_cst_9 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_10 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩

abbrev nD : Nat := 1
abbrev τ : Topo := Topo.v7x

variable {F : FTy → Type} [FloatOps F]
-- ==== Proof.Moe.Block.lean ====
module

public import proofs.«01_k».proof.Proof.Gen.MoeIdeal.Frame
public import Idealize.ShloMosaic.Lib.Pointwise
public import Idealize.ShloMosaic.Lib.Pipeline.ValueKit

/-! What one grid point of the expert call computes from the blocks it reads: the expert's gated contribution added to
the running sum, and, at the last expert, the normed sum added to the residual. -/

@[expose] public section

set_option maxRecDepth 16384

noncomputable section

namespace Cert.MoeIdeal.Block

open Idealize.ShloMosaic Idealize.ShloMosaic.TcCoe Idealize.SL.Sem
open Cert.MoeIdeal Cert.MoeIdeal.Gen

/-- The gated unit of an expert's hidden layer: `a · σ(a) · b`. -/
def hid (a b : EReal) : EReal := a * Ideal.logistic a * b

/-- The kernel's lane indicator: one at the expert's own lane, zero elsewhere. -/
theorem lane_indicator (x e : ℕ) (hx : x < 128) (he : e < 128) :
    (FloatOps.sitofp (F := Ideal) FTy.f32
      (BitVec.setWidth 32 (IntOp.cmpi CmpIPredicate.eq (BitVec.ofNat 32 x) (BitVec.ofNat 32 e)))) = if x = e then 1 else 0 := by
  have h : (BitVec.ofNat 32 x = BitVec.ofNat 32 e) ↔ x = e := by
    constructor
    · intro h
      have := congrArg BitVec.toNat h
      simpa [Nat.mod_eq_of_lt (show x < 4294967296 by omega), Nat.mod_eq_of_lt (show e < 4294967296 by omega)] using this
    · rintro rfl; rfl
  show (((_ : BitVec 32).toInt : ℝ) : EReal) = _
  by_cases hxe : x = e
  · subst hxe; simp [IntOp.cmpi]
  · have hn : ¬ (BitVec.ofNat 32 x = BitVec.ofNat 32 e) := fun q => hxe (h.mp q)
    have hb : (BitVec.ofNat 32 x == BitVec.ofNat 32 e) = false := beq_eq_false_iff_ne.mpr hn
    simp [IntOp.cmpi, hb, hxe]

/-- Multiplying a row of gates by the indicator picks the expert's gate. -/
theorem pick (g : Fin 128 → EReal) (n : ℕ) (e : Fin 128) (h : n = e.val) :
    (∑ x : Fin 128, g x * (FloatOps.sitofp (F := Ideal) FTy.f32
      (BitVec.setWidth 32 (IntOp.cmpi CmpIPredicate.eq (BitVec.ofNat 32 (x : ℕ)) (BitVec.ofNat 32 n))))) = g e := by
  subst h
  rw [Finset.sum_eq_single e]
  · rw [lane_indicator _ _ e.isLt e.isLt, if_pos rfl, mul_one]
  · intro b _ hb
    rw [lane_indicator _ _ b.isLt e.isLt, if_neg (fun h => hb (Fin.ext h)), mul_zero]
  · intro h; exact absurd (Finset.mem_univ _) h

/-- A sum over the first and one over the second 128 of 256 lanes. -/
theorem sum_halves (f : Fin 256 → EReal) :
    (∑ x : Fin 128, f ⟨x, by omega⟩ + ∑ x : Fin 128, f ⟨128 + x, by omega⟩) = ∑ x : Fin 256, f x :=
  (Fin.sum_univ_add (a := 128) (b := 128) f).symm

/-- One expert's step: the running sum plus the expert's contribution, its gate as the kernel rebuilds it. -/
theorem pay4_at (i : grid0.Coords) (x : FVec Ideal S1024x1024 .bf16) (wg wu : FVec Ideal S1x1024x256 .bf16)
    (g : FVec Ideal S1024x128 .f32) (acc : FVec Ideal S1024x1024 .f32) (wd : FVec Ideal S1x256x1024 .bf16)
    (r d : Fin 1024) (e : Fin 128) (he : (i 1).val = e.val) :
    k0_pay4 (F := Ideal) i x wg wu g acc wd (ix2 r d) = acc (ix2 r d) + ∑ f : Fin 256,
      hid (∑ k : Fin 1024, x (ix2 r k) * wg (ix3 0 k f)) (∑ k : Fin 1024, x (ix2 r k) * wu (ix3 0 k f))
        * (g (ix2 r e) + (g (ix2 r e) - g (ix2 r e))) * wd (ix3 0 f d) := by
  rw [← sum_halves]
  pointwise [k0_pay4]
  have h1 := pick (fun q => g (ix2 r q)) (i 1).val e he
  have h2 := pick (fun q => g (ix2 r q) - g (ix2 r q)) (i 1).val e he
  set_option backward.isDefEq.respectTransparency false in
  rw [h1, h2]
  rfl

/-- The last expert's write: the residual plus the modulated root-mean-square norm of the sum. -/
theorem pay2_at (mo : FVec Ideal S1x1x6144 .f32) (x1 a : FVec Ideal S1024x1024 .f32) (gp : FVec Ideal S1x1024 .f32)
    (r d : Fin 1024) : k0_pay2 (F := Ideal) mo x1 a gp (ix2 r d) =
    x1 (ix2 r d) + mo (ix3 0 0 ⟨5120 + d, by omega⟩) * (a (ix2 r d) * Ideal.rsqrt
      (Ideal.div (∑ k : Fin 1024, a (ix2 r k) * a (ix2 r k)) (Ideal.ofBits FTy.f32 1149239296#32)
        + Ideal.ofBits FTy.f32 897988541#32) * gp (ix2 0 d)) := by
  pointwise [k0_pay2]

theorem pay1_at (a : FVec Ideal S1024x1024 .f32) : k0_pay1 (F := Ideal) a = a := by
  funext j; pointwise [k0_pay1]

theorem pay3_at (j) : k0_pay3 (F := Ideal) j = 0 := by pointwise [k0_pay3]

end Cert.MoeIdeal.Block
-- ==== Proof.Moe.Array.lean ====
module

public import proofs.«01_k».proof.Proof.Moe.Block

/-! What the expert call's result array holds: at each row, the residual plus the modulated norm of the sum of the 65
experts' contributions that the row's 65 grid points add up. -/

@[expose] public section

set_option maxRecDepth 16384

noncomputable section

namespace Cert.MoeIdeal.Array

open Idealize.ShloMosaic Idealize.ShloMosaic.TcCoe Idealize.SL.Sem
open Cert.MoeIdeal Cert.MoeIdeal.Gen Cert.MoeIdeal.Block

variable (m : (ℓ : Loc nD τ sig) → Buf (Elt Ideal) ℓ)

/-- The windows' block indices at grid point `t`: row block `t / 65`, expert `t % 65`. -/
theorem idx : ∀ t : Fin cfg0.N, win0_0.index t = ![t.val / 65, 0] ∧ win0_1.index t = ![t.val / 65, 0]
    ∧ win0_2.index t = ![t.val % 65, 0, 0] ∧ win0_3.index t = ![t.val % 65, 0, 0] ∧ win0_4.index t = ![t.val % 65, 0, 0]
    ∧ win0_5.index t = ![t.val / 65, 0] ∧ win0_6.index t = ![1 + (t.val / 65) / 2, 0, 0] ∧ win0_7.index t = ![0, 0]
    ∧ win0_8.index t = ![t.val / 65, 0] :=
  (by decide +kernel : ∀ t : Fin grid0.N, _)

/-- The expert coordinate of grid point `t`. -/
theorem coord1 : ∀ t : Fin cfg0.N, (grid0.coords t 1).val = t.val % 65 :=
  (by decide +kernel : ∀ t : Fin grid0.N, _)

/-- A weight of the 65 experts: the 64 routed ones, then the shared one. -/
def up (W : FVec Ideal S1x64x1024x256 .f32) (S : FVec Ideal S1x1024x256 .f32) (e : Fin 65) (k : Fin 1024) (f : Fin 256) :
    EReal := if h : e.val < 64 then W (ix4 0 ⟨e.val, h⟩ k f) else S (ix3 0 k f)
def down (W : FVec Ideal S1x64x256x1024 .f32) (S : FVec Ideal S1x256x1024 .f32) (e : Fin 65) (f : Fin 256) (d : Fin 1024) :
    EReal := if h : e.val < 64 then W (ix4 0 ⟨e.val, h⟩ f d) else S (ix3 0 f d)

theorem V_wg (c : Dev nD) (e : Fin 65) (k : Fin 1024) (f : Fin 256) : V m c main_v8 (ix3 e k f)
    = up (m ((c : Thread nD τ).loc main_arg4)) (m ((c : Thread nD τ).loc main_arg7)) e k f := by
  entry_read
  pointwise
  rfl

theorem V_wu (c : Dev nD) (e : Fin 65) (k : Fin 1024) (f : Fin 256) : V m c main_v11 (ix3 e k f)
    = up (m ((c : Thread nD τ).loc main_arg5)) (m ((c : Thread nD τ).loc main_arg8)) e k f := by
  entry_read
  pointwise
  rfl

theorem V_wd (c : Dev nD) (e : Fin 65) (f : Fin 256) (d : Fin 1024) : V m c main_v14 (ix3 e f d)
    = down (m ((c : Thread nD τ).loc main_arg6)) (m ((c : Thread nD τ).loc main_arg9)) e f d := by
  entry_read
  pointwise
  rfl

theorem V_gp (c : Dev nD) (k : Fin 1024) : V m c main_v16 (ix2 0 k) = m ((c : Thread nD τ).loc main_arg10) (ix2 0 k) := by
  entry_read
  pointwise

/-- One expert's contribution to one feature of one row: `x` the row, `wg`, `wu` the expert's two projections, `g` its
gate (which the kernel takes apart into a leading part and the rest), `wd` its output weights for the feature. -/
def contrib (x : Fin 1024 → EReal) (wg wu : Fin 1024 → Fin 256 → EReal) (g : EReal) (wd : Fin 256 → EReal) : EReal :=
  ∑ f : Fin 256, hid (∑ k : Fin 1024, x k * wg k f) (∑ k : Fin 1024, x k * wu k f) * (g + (g - g)) * wd f

/-- The blocks a grid point reads. -/
abbrev bX (c : Dev nD) (t : Fin cfg0.N) : FVec Ideal S1024x1024 .bf16 := iblk m c 0 t
abbrev bG (c : Dev nD) (t : Fin cfg0.N) : FVec Ideal S1024x128 .f32 := iblk m c 1 t
abbrev bWg (c : Dev nD) (t : Fin cfg0.N) : FVec Ideal S1x1024x256 .bf16 := iblk m c 2 t
abbrev bWu (c : Dev nD) (t : Fin cfg0.N) : FVec Ideal S1x1024x256 .bf16 := iblk m c 3 t
abbrev bWd (c : Dev nD) (t : Fin cfg0.N) : FVec Ideal S1x256x1024 .bf16 := iblk m c 4 t
abbrev bR (c : Dev nD) (t : Fin cfg0.N) : FVec Ideal S1024x1024 .f32 := iblk m c 5 t
abbrev bM (c : Dev nD) (t : Fin cfg0.N) : FVec Ideal S1x1x6144 .f32 := iblk m c 6 t
abbrev bP (c : Dev nD) (t : Fin cfg0.N) : FVec Ideal S1x1024 .f32 := iblk m c 7 t

/-- The contribution of grid point `t` at row `r` and feature `d` of its block. -/
def part (c : Dev nD) (t : Fin cfg0.N) (r d : Fin 1024) : EReal :=
  contrib (fun k => bX m c t (ix2 r k)) (fun k f => bWg m c t (ix3 0 k f)) (fun k f => bWu m c t (ix3 0 k f))
    (bG m c t (ix2 r ⟨t.val % 65, by omega⟩)) (fun f => bWd m c t (ix3 0 f d))

theorem scratch_first (c : Dev nD) (t : Fin cfg0.N) (h : t.val % 65 = 0) (j : S1024x1024.Idx) :
    (outsAt0 m c t.val t.isLt).2 j = 0 + part m c t (j 0) (j 1) := by
  rw [outsAt0_A m c t h (by omega)]
  frame_out
  rw [pay1_at]
  idx_vars j
  rw [pay4_at _ _ _ _ _ _ _ _ _ ⟨t.val % 65, by omega⟩ (coord1 t), pay3_at]
  rfl

theorem scratch_next (c : Dev nD) (t : Fin cfg0.N) (h : ¬ t.val % 65 = 0) (j : S1024x1024.Idx) :
    (outsAt0 m c t.val t.isLt).2 j
      = (outsAt0 m c (t.val - 1) (by omega)).2 j + part m c t (j 0) (j 1) := by
  by_cases h1 : t.val % 65 = 64
  · rw [outsAt0_C m c t h h1]
    frame_out
    rw [pay1_at]
    idx_vars j
    rw [pay4_at _ _ _ _ _ _ _ _ _ ⟨t.val % 65, by omega⟩ (coord1 t)]
    rw [Memref.IsWhole.read_unread (Memref.isWhole_whole _)]
    rfl
  · rw [outsAt0_B m c t h h1]
    frame_out
    rw [pay1_at]
    idx_vars j
    rw [pay4_at _ _ _ _ _ _ _ _ _ ⟨t.val % 65, by omega⟩ (coord1 t)]
    rw [Memref.IsWhole.read_unread (Memref.isWhole_whole _)]
    rfl

theorem scratch_last (c : Dev nD) (t : Fin cfg0.N) (h : t.val % 65 = 64) (j : S1024x1024.Idx) :
    (outsAt0 m c t.val t.isLt).2 j = ∑ s : Fin 65, part m c ⟨65 * (t.val / 65) + s, Pipeline.run_point_lt_of_flush t h s⟩ (j 0) (j 1) := by
  rw [Pipeline.eq_sum_fin_of_reset_step_apply_of_flush (fun n h => (outsAt0 m c n h).2) 65 (fun _ => 0)
    (fun t j => part m c t (j 0) (j 1)) (fun t h j => scratch_first m c t h j) (fun t h j => scratch_next m c t h j) t h j, zero_add]

/-- The sum over the 65 experts at row `n` and feature `d`, over the arrays. -/
def acc (X : FVec Ideal S16384x1024 .bf16) (g : FVec Ideal S16384x128 .f32) (Wg Wu : FVec Ideal S1x64x1024x256 .f32)
    (Wd : FVec Ideal S1x64x256x1024 .f32) (Sg Su : FVec Ideal S1x1024x256 .f32) (Sd : FVec Ideal S1x256x1024 .f32)
    (n : Fin 16384) (d : Fin 1024) : EReal :=
  ∑ e : Fin 65, contrib (fun k => X (ix2 n k)) (up Wg Sg e) (up Wu Su e) (g (ix2 n ⟨e, by omega⟩))
    (fun f => down Wd Sd e f d)

/-- The residual `x` plus the modulated root-mean-square norm of the row `a`. -/
def normed (x mo gp : EReal) (a : Fin 1024 → EReal) (d : Fin 1024) : EReal :=
  x + mo * (a d * Ideal.rsqrt (Ideal.div (∑ k : Fin 1024, a k * a k) (Ideal.ofBits FTy.f32 1149239296#32)
        + Ideal.ofBits FTy.f32 897988541#32) * gp)

/-- The kernel's result array at row `n` and feature `d`. -/
def outAt (X : FVec Ideal S16384x1024 .bf16) (g : FVec Ideal S16384x128 .f32) (x1 : FVec Ideal S16384x1024 .f32)
    (mo : FVec Ideal S16x1x6144 .f32) (Wg Wu : FVec Ideal S1x64x1024x256 .f32)
    (Wd : FVec Ideal S1x64x256x1024 .f32) (Sg Su : FVec Ideal S1x1024x256 .f32) (Sd : FVec Ideal S1x256x1024 .f32)
    (gp : FVec Ideal S1x1024 .f32) (n : Fin 16384) (d : Fin 1024) : EReal :=
  normed (x1 (ix2 n d)) (mo (ix3 ⟨1 + n.val / 2048, by omega⟩ 0 ⟨5120 + d.val, by omega⟩)) (gp (ix2 0 d))
    (acc X g Wg Wu Wd Sg Su Sd n) d

/-- The kernel's result array. -/
def out (c : Dev nD) : FVec Ideal S16384x1024 .f32 := fun i =>
  outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (i 0) (i 1)

/-- One grid point's contribution, read from the arrays. -/
theorem part_eq (c : Dev nD) (t : Fin cfg0.N) (r d : Fin 1024) (e : Fin 65) (n : Fin 16384) (he : t.val % 65 = e.val)
    (hn : n.val = t.val / 65 * 1024 + r.val) : part m c t r d =
    contrib (fun k => m ((c : Thread nD τ).loc main_arg0) (ix2 n k))
      (up (m ((c : Thread nD τ).loc main_arg4)) (m ((c : Thread nD τ).loc main_arg7)) e)
      (up (m ((c : Thread nD τ).loc main_arg5)) (m ((c : Thread nD τ).loc main_arg8)) e)
      (m ((c : Thread nD τ).loc main_arg1) (ix2 n ⟨e, by omega⟩))
      (fun f => down (m ((c : Thread nD τ).loc main_arg6)) (m ((c : Thread nD τ).loc main_arg9)) e f d) := by
  have h0 : (fun k : Fin 1024 => bX m c t (ix2 r k))
      = fun k => m ((c : Thread nD τ).loc main_arg0) (ix2 n k) := funext fun k => by blk_ext [bX, iblk, V, idx t]
  have h1 : bG m c t (ix2 r ⟨t.val % 65, by omega⟩)
      = m ((c : Thread nD τ).loc main_arg1) (ix2 n ⟨e, by omega⟩) := by blk_ext [bG, iblk, V, idx t]
  have h2 : (fun (k : Fin 1024) (f : Fin 256) => bWg m c t (ix3 0 k f)) = up _ _ e :=
    funext fun k => funext fun f => Eq.trans (by blk_ext [bWg, iblk, idx t]) (V_wg m c e k f)
  have h3 : (fun (k : Fin 1024) (f : Fin 256) => bWu m c t (ix3 0 k f)) = up _ _ e :=
    funext fun k => funext fun f => Eq.trans (by blk_ext [bWu, iblk, idx t]) (V_wu m c e k f)
  have h4 : (fun f : Fin 256 => bWd m c t (ix3 0 f d)) = fun f => down _ _ e f d :=
    funext fun f => Eq.trans (by blk_ext [bWd, iblk, idx t]) (V_wd m c e f d)
  unfold part
  rw [h0, h1, h2, h3, h4]

/-- The last point's write. -/
theorem write_last (c : Dev nD) (t : Fin cfg0.N) (h : t.val % 65 = 64) (j : S1024x1024.Idx) :
    (outsAt0 m c t.val t.isLt).1 j = normed (bR m c t j) (bM m c t (ix3 0 0 ⟨5120 + (j 1).val, by have : (j 1).val < 1024 := (j 1).isLt; omega⟩))
      (bP m c t (ix2 0 (j 1))) (fun k => (outsAt0 m c t.val t.isLt).2 (ix2 (j 0) k)) (j 1) := by
  rw [outsAt0_C m c t (by omega) h]
  frame_out
  idx_vars j
  rw [pay2_at]
  rfl

end Cert.MoeIdeal.Array
-- ==== Proof.Moe.Final.lean ====
module

public import proofs.«01_k».proof.Proof.Moe.Array
public import proofs.«01_k».proof.Proof.Gen.MoeIdeal.Value

/-! The expert call's run: it ends with the result array at `Array.out`. -/

@[expose] public section

set_option maxRecDepth 16384

noncomputable section

namespace Cert.MoeIdeal.Final

open Idealize.ShloMosaic Idealize.ShloMosaic.TcCoe Idealize.SL.Sem
open Cert.MoeIdeal Cert.MoeIdeal.Gen Cert.MoeIdeal.Block Cert.MoeIdeal.Array

variable (m : (ℓ : Loc nD τ sig) → Buf (Elt Ideal) ℓ)

/-- The value written at row `r`, feature `d` of the last point of a row block. -/
theorem write_eq (c : Dev nD) (t : Fin cfg0.N) (ht : t.val % 65 = 64) (r d : Fin 1024) (n : Fin 16384)
    (hn : n.val = t.val / 65 * 1024 + r.val) :
    (outsAt0 m c t.val t.isLt).1 (ix2 r d) = out m c (ix2 n d) := by
  rw [write_last m c t ht]
  have hsum : (fun k => (outsAt0 m c t.val t.isLt).2 (ix2 r k)) = acc (m ((c : Thread nD τ).loc main_arg0))
      (m ((c : Thread nD τ).loc main_arg1)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) n := by
    funext k
    rw [scratch_last m c t ht]
    refine Finset.sum_congr rfl fun s _ => ?_
    exact part_eq m c _ r k s n (by show (65 * (t.val / 65) + s.val) % 65 = s.val; omega)
      (by show n.val = (65 * (t.val / 65) + s.val) / 65 * 1024 + r.val; omega)
  have h5 : bR m c t (ix2 r d) = m ((c : Thread nD τ).loc main_arg2) (ix2 n d) := by blk_ext [bR, iblk, V, idx t]
  have h6 : bM m c t (ix3 0 0 ⟨5120 + d.val, by omega⟩) = m ((c : Thread nD τ).loc main_arg3)
      (ix3 ⟨1 + n.val / 2048, by omega⟩ 0 ⟨5120 + d.val, by omega⟩) := by
    have : n.val / 2048 = t.val / 65 / 2 := by omega
    blk_ext [bM, iblk, V, idx t]
  have h7 : bP m c t (ix2 0 d) = m ((c : Thread nD τ).loc main_arg10) (ix2 0 d) :=
    Eq.trans (by blk_ext [bP, iblk, idx t]) (V_gp m c d)
  show normed (bR m c t (ix2 r d)) (bM m c t (ix3 0 0 ⟨5120 + d.val, _⟩)) (bP m c t (ix2 0 d)) _ d = _
  rw [h5, h6, h7]
  show normed _ _ _ (fun k => (outsAt0 m c t.val t.isLt).2 (ix2 r k)) d = _
  rw [hsum]
  rfl

/-- The result array after the run. -/
theorem final (c : Dev nD) : (dats m 0 c).arrAt 8 (cfgs 0).N = out m c := by
  refine (dats m 0 c).arrAt_eq_of_covers 8 _ (by decide +kernel) fun t hf y => ?_
  blk_simp
  rw [after0_8]
  have ht := (flush0_8 t).mp hf
  have hN : t.val < 1040 := lt_of_lt_of_eq t.isLt (show cfg0.N = 1040 from N_0)
  idx_vars y
  refine (write_eq m c t ht _ _ ⟨t.val / 65 * 1024 + y0.val, by omega⟩ rfl).trans ?_
  blk_ext [idx t]

/-- The run: the result array at `out`, every argument as it was. -/
theorem G_eq (c : Dev nD) : Value.G8 m c = out m c := (Value.final8 m c).symm.trans (final m c)

end Cert.MoeIdeal.Final
-- ==== Proof.Tame.lean ====
module

public import Idealize.ShloMosaic.Lib.Pointwise

/-! What a precondition's bits say, finite numbers, and sums. -/

@[expose] public section

noncomputable section

namespace Cert.Tame

open Idealize.ShloMosaic

/-- Both of two conditions that hold together. -/
theorem and_bits {a b : BitVec 1} (h : IntOp.andi a b = 1#1) : a = 1#1 ∧ b = 1#1 := by
  revert h
  revert a b
  decide

/-- What a condition's bit says. -/
theorem of_bit {p : Prop} [Decidable p] (h : BitVec.ofBool (decide p) = 1#1) : p := by
  by_contra hp
  rw [decide_eq_false hp] at h
  exact absurd h (by decide)

/-- The bits of the greatest value. -/
theorem ofBits_inf : Ideal.ofBits FTy.f32 2139095040#32 = ⊤ := by
  simp [Ideal.ofBits, Ideal.ieee]

/-- A number whose magnitude is below the greatest value is real. -/
theorem real_of_abs (x : EReal) (h : max x (-x) < ⊤) : ∃ r : ℝ, x = (r : EReal) := by
  obtain ⟨h1, h2⟩ := max_lt_iff.1 h
  refine ⟨x.toReal, (EReal.coe_toReal h1.ne fun hb => ?_).symm⟩
  rw [hb] at h2
  exact absurd h2 (by simp)

/-- A real number less itself is zero. -/
theorem coe_sub_self (r : ℝ) : (r : EReal) - (r : EReal) = 0 := by
  rw [← EReal.coe_sub, sub_self, EReal.coe_zero]

/-- A finite factor that is not negative moves out of a sum. -/
theorem sum_mul_coe {n : ℕ} (r : ℝ) (hr : 0 ≤ r) (a w : Fin n → EReal) :
    ∑ f, a f * (r : EReal) * w f = (r : EReal) * ∑ f, a f * w f := by
  have h : ∀ s : Finset (Fin n), ∑ f ∈ s, a f * (r : EReal) * w f = (r : EReal) * ∑ f ∈ s, a f * w f := by
    intro s
    induction s using Finset.induction_on with
    | empty => simp
    | insert i s hi ih =>
      rw [Finset.sum_insert hi, Finset.sum_insert hi, ih,
        EReal.left_distrib_of_nonneg_of_ne_top (by exact_mod_cast hr) (EReal.coe_ne_top r)]
      congr 1
      rw [mul_comm (a i) (r : EReal), mul_assoc]
  exact h _

/-- A sum of real numbers is real. -/
theorem coe_sum {n : ℕ} (f : Fin n → ℝ) : ∑ i, (f i : EReal) = ((∑ i, f i : ℝ) : EReal) := by
  have h : ∀ s : Finset (Fin n), ∑ i ∈ s, (f i : EReal) = ((∑ i ∈ s, f i : ℝ) : EReal) := by
    intro s
    induction s using Finset.induction_on with
    | empty => simp
    | insert i s hi ih => rw [Finset.sum_insert hi, Finset.sum_insert hi, ih, EReal.coe_add]
  exact h _

/-- A sum over 128 lanes the upper 64 of which are zero. -/
theorem sum_lanes (f : Fin 128 → EReal) (h : ∀ e : Fin 128, 64 ≤ e.val → f e = 0) :
    ∑ e, f e = ∑ e : Fin 64, f ⟨e.val, by omega⟩ := by
  refine (Fin.sum_univ_add (a := 64) (b := 64) f).trans ?_
  have h2 : ∑ e : Fin 64, f (Fin.natAdd 64 e) = 0 :=
    Finset.sum_eq_zero fun e _ => h (Fin.natAdd 64 e) (by show 64 ≤ 64 + e.val; omega)
  rw [h2, add_zero]
  rfl

end Cert.Tame
-- ==== Proof.Moe.Ref.lean ====
module

public import proofs.«01_k».proof.Proof.Gen.MoeRefIdeal.Read
public import proofs.«01_k».proof.Proof.Moe.Array
public import Idealize.ShloMosaic.Lib.Pointwise

/-! What the reference computes, read at a row and a feature. -/

@[expose] public section

set_option maxRecDepth 16384

noncomputable section

namespace Cert.MoeRefIdeal.At

open Idealize.ShloMosaic Idealize.ShloMosaic.TcCoe Idealize.SL.Sem
open Cert.MoeRefIdeal Cert.MoeRefIdeal.Gen Cert.MoeRefIdeal.Read
open Cert.MoeIdeal.Block (hid)
open Cert.MoeIdeal.Array (normed)

variable (X : FVec Ideal S16384x1024 .bf16) (g : FVec Ideal S16384x128 .f32) (x1 : FVec Ideal S16384x1024 .f32)
  (mo : FVec Ideal S16x1x6144 .f32) (Wg Wu : FVec Ideal S1x64x1024x256 .f32) (Wd : FVec Ideal S1x64x256x1024 .f32)
  (Sg Su : FVec Ideal S1x1024x256 .f32) (Sd : FVec Ideal S1x256x1024 .f32) (gp : FVec Ideal S1x1024 .f32)

/-- A routed expert's gate projection. -/
theorem v3_at (e : Fin 64) (n : Fin 16384) (f : Fin 256) : val_main_v3 (F := Ideal) X Wg (ix3 e n f)
    = ∑ k : Fin 1024, X (ix2 n k) * Wg (ix4 0 e k f) := by
  pointwise [val_main_v3, val_main_v2, val_main_v1, val_main_v0]
  exact Finset.sum_congr rfl fun k _ => mul_comm _ _

theorem v7_at (e : Fin 64) (n : Fin 16384) (f : Fin 256) : val_main_v7 (F := Ideal) X Wu (ix3 e n f)
    = ∑ k : Fin 1024, X (ix2 n k) * Wu (ix4 0 e k f) := by
  pointwise [val_main_v7, val_main_v6, val_main_v5, val_main_v0]
  exact Finset.sum_congr rfl fun k _ => mul_comm _ _

theorem v8_at (e : Fin 64) (n : Fin 16384) (f : Fin 256) : val_main_v8 (F := Ideal) X Wg Wu (ix3 e n f)
    = hid (∑ k : Fin 1024, X (ix2 n k) * Wg (ix4 0 e k f)) (∑ k : Fin 1024, X (ix2 n k) * Wu (ix4 0 e k f)) := by
  pointwise [val_main_v8, val_main_v4, val_main_call0_v5, val_main_call0_v4, val_main_call0_v3, val_main_call0_v2,
    val_main_call0_v1, val_main_call0_v0, val_main_call0_cst, val_main_call0_cst_0]
  rw [v3_at, v7_at]
  rfl

/-- The gated sum over the routed experts. -/
theorem v16_at (n : Fin 16384) (d : Fin 1024) : val_main_v16 (F := Ideal) X g Wg Wu Wd (ix2 n d)
    = ∑ e : Fin 64, g (ix2 n ⟨e, by omega⟩) * ∑ f : Fin 256,
        hid (∑ k : Fin 1024, X (ix2 n k) * Wg (ix4 0 e k f)) (∑ k : Fin 1024, X (ix2 n k) * Wu (ix4 0 e k f))
          * Wd (ix4 0 e f d) := by
  simp only [← v8_at]
  pointwise [val_main_v16, val_main_v15, val_main_v14, val_main_v13, val_main_v12, val_main_v11, val_main_v10, val_main_v9,
    val_main_cst]

/-- The shared expert. -/
theorem v24_at (n : Fin 16384) (d : Fin 1024) : val_main_v24 (F := Ideal) X Sg Su Sd (ix2 n d)
    = ∑ f : Fin 256, hid (∑ k : Fin 1024, X (ix2 n k) * Sg (ix3 0 k f)) (∑ k : Fin 1024, X (ix2 n k) * Su (ix3 0 k f))
          * Sd (ix3 0 f d) := by
  pointwise [val_main_v24, val_main_v23, val_main_v22, val_main_v21, val_main_v20, val_main_v19, val_main_v18,
    val_main_v17, val_main_call1_v5, val_main_call1_v4, val_main_call1_v3, val_main_call1_v2,
    val_main_call1_v1, val_main_call1_v0, val_main_call1_cst, val_main_call1_cst_0, val_main_v0]
  rfl

end Cert.MoeRefIdeal.At
-- ==== Proof.Moe.RefTail.lean ====
module

public import proofs.«01_k».proof.Proof.Gen.MoeRefIdeal.Read
public import proofs.«01_k».proof.Proof.Moe.Ref
public import Idealize.ShloMosaic.Lib.Pointwise

/-! The reference's norm and residual, read at a row and a feature. -/

@[expose] public section

set_option maxRecDepth 16384

noncomputable section

namespace Cert.MoeRefIdeal.At

open Idealize.ShloMosaic Idealize.ShloMosaic.TcCoe Idealize.SL.Sem
open Cert.MoeRefIdeal Cert.MoeRefIdeal.Gen Cert.MoeRefIdeal.Read
open Cert.MoeIdeal.Block (hid)
open Cert.MoeIdeal.Array (normed)

variable (X : FVec Ideal S16384x1024 .bf16) (g : FVec Ideal S16384x128 .f32) (x1 : FVec Ideal S16384x1024 .f32)
  (mo : FVec Ideal S16x1x6144 .f32) (Wg Wu : FVec Ideal S1x64x1024x256 .f32) (Wd : FVec Ideal S1x64x256x1024 .f32)
  (Sg Su : FVec Ideal S1x1024x256 .f32) (Sd : FVec Ideal S1x256x1024 .f32) (gp : FVec Ideal S1x1024 .f32)

/-- Row `t` of sequence `b` is row `b * 2048 + t` of the flat array. -/
theorem flat_index (b : Fin 8) (t : Fin 2048) (d : Fin 1024) (n : Fin 16384) (hn : n.val = b.val * 2048 + t.val) :
    idx_main_v26 (ix3 b t d) = ix2 n d := by
  funext a
  refine Fin.ext ?_
  match a with
  | ⟨0, _⟩ =>
    show ((b.val * 2048 + t.val) * 1024 + d.val) / 1024 = n.val
    omega
  | ⟨1, _⟩ =>
    show ((b.val * 2048 + t.val) * 1024 + d.val) % 1024 = d.val
    omega

theorem v26_at (b : Fin 8) (t : Fin 2048) (d : Fin 1024) (n : Fin 16384) (hn : n.val = b.val * 2048 + t.val) :
    val_main_v26 (F := Ideal) X g Wg Wu Wd Sg Su Sd (ix3 b t d) = val_main_v25 (F := Ideal) X g Wg Wu Wd Sg Su Sd (ix2 n d) :=
  (val_main_v26_apply _ _ _ _ _ _ _ _ _).trans (congrArg _ (flat_index b t d n hn))

theorem v48_at (b : Fin 8) (t : Fin 2048) (d : Fin 1024) (n : Fin 16384) (hn : n.val = b.val * 2048 + t.val) :
    val_main_v48 (F := Ideal) x1 (ix3 b t d) = x1 (ix2 n d) :=
  (val_main_v48_apply _ _).trans (congrArg _ (flat_index b t d n hn))

/-- The modulation's output gate of sequence `b`. -/
theorem v49_at (b : Fin 8) (t : Fin 2048) (d : Fin 1024) :
    val_main_v49 (F := Ideal) mo (ix3 b t d) = mo (ix3 ⟨1 + b.val, by omega⟩ 0 ⟨5120 + d.val, by omega⟩) := by
  pointwise [val_main_v49, val_main_v47, val_main_v41]

/-- The norm's weight. -/
theorem v39_at (b : Fin 8) (t : Fin 2048) (d : Fin 1024) :
    val_main_v39 (F := Ideal) gp (ix3 b t d) = gp (ix2 0 d) := by
  pointwise [val_main_v39, val_main_v38, val_main_v37]

/-- The norm's factor of a row. -/
theorem v35_at (b : Fin 8) (t : Fin 2048) (d : Fin 1024) (n : Fin 16384) (hn : n.val = b.val * 2048 + t.val) :
    val_main_v35 (F := Ideal) X g Wg Wu Wd Sg Su Sd (ix3 b t d)
    = Ideal.rsqrt (Ideal.div (∑ k : Fin 1024, val_main_v25 (F := Ideal) X g Wg Wu Wd Sg Su Sd (ix2 n k)
        * val_main_v25 (F := Ideal) X g Wg Wu Wd Sg Su Sd (ix2 n k)) (Ideal.ofBits FTy.f32 1149239296#32)
        + Ideal.ofBits FTy.f32 897988541#32) := by
  have h28 : val_main_v28 (F := Ideal) X g Wg Wu Wd Sg Su Sd (ix2 b t)
      = ∑ k : Fin 1024, val_main_v25 (F := Ideal) X g Wg Wu Wd Sg Su Sd (ix2 n k)
        * val_main_v25 (F := Ideal) X g Wg Wu Wd Sg Su Sd (ix2 n k) := by
    rw [val_main_v28_apply]
    refine (congrArg₂ (· + ·) (Ideal.ofBits_zero_f32) (Finset.sum_congr rfl fun k _ => ?_)).trans (zero_add _)
    have hk : idx_main_v28 (ix2 b t) k = ix3 b t k := funext fun a => Fin.ext (by
      match a with | ⟨0, _⟩ => rfl | ⟨1, _⟩ => rfl | ⟨2, _⟩ => rfl)
    rw [hk, val_main_v27_apply, v26_at _ _ _ _ _ _ _ _ b t k n hn]
    rfl
  rw [← h28]
  pointwise [val_main_v35, val_main_v34, val_main_v33, val_main_v32, val_main_v31, val_main_v30, val_main_v29,
    val_main_cst_1, val_main_cst_2]

/-- The reference's result: the normed sum of the experts, modulated, on the residual. -/
theorem v52_at (n : Fin 16384) (d : Fin 1024) : val_main_v52 (F := Ideal) X g x1 mo Wg Wu Wd Sg Su Sd gp (ix2 n d)
    = normed (x1 (ix2 n d)) (mo (ix3 ⟨1 + n.val / 2048, by omega⟩ 0 ⟨5120 + d.val, by omega⟩)) (gp (ix2 0 d))
      (fun k => val_main_v25 (F := Ideal) X g Wg Wu Wd Sg Su Sd (ix2 n k)) d := by
  have hi : idx_main_v52 (ix2 n d) = ix3 (⟨n.val / 2048, by omega⟩ : Fin 8) (⟨n.val % 2048, by omega⟩ : Fin 2048) d := by
    funext a
    refine Fin.ext ?_
    match a with
    | ⟨0, _⟩ =>
      show (n.val * 1024 + d.val) / 2097152 = n.val / 2048
      omega
    | ⟨1, _⟩ =>
      show (n.val * 1024 + d.val) / 1024 % 2048 = n.val % 2048
      omega
    | ⟨2, _⟩ =>
      show (n.val * 1024 + d.val) % 1024 = d.val
      omega
  have hn : n.val = (⟨n.val / 2048, by omega⟩ : Fin 8).val * 2048 + (⟨n.val % 2048, by omega⟩ : Fin 2048).val := by
    show n.val = n.val / 2048 * 2048 + n.val % 2048
    omega
  rw [val_main_v52_apply, hi]
  generalize (⟨n.val % 2048, by omega⟩ : Fin 2048) = t at hn ⊢
  have h48 := v48_at x1 ⟨n.val / 2048, by omega⟩ t d n hn
  have h35 := v35_at X g Wg Wu Wd Sg Su Sd ⟨n.val / 2048, by omega⟩ t d n hn
  have h26 := v26_at X g Wg Wu Wd Sg Su Sd ⟨n.val / 2048, by omega⟩ t d n hn
  rw [val_main_v51_apply, val_main_v50_apply, val_main_v40_apply, val_main_v36_apply, h48, v49_at, v39_at, h35, h26]
  rfl

end Cert.MoeRefIdeal.At
-- ==== Proof.Moe.Equation.lean ====
module

public import proofs.«01_k».proof.Proof.Tame
public import proofs.«01_k».proof.Proof.Moe.RefTail
public import proofs.«01_k».proof.Proof.Gen.Pre_gates_tame

/-! The kernel's sum over the 65 experts is the reference's gated sum plus the shared expert. -/

@[expose] public section

set_option maxRecDepth 16384

noncomputable section

namespace Cert.MoeRefIdeal.At

open Idealize.ShloMosaic Idealize.ShloMosaic.TcCoe Idealize.SL.Sem
open Cert.MoeRefIdeal Cert.MoeRefIdeal.Gen Cert.MoeRefIdeal.Read
open Cert.Tame
open Cert.MoeIdeal.Block (hid)
open Cert.MoeIdeal.Array (normed acc contrib up down outAt)

/-- One expert's contribution, its gate in front. -/
theorem contrib_eq (x : Fin 1024 → EReal) (wg wu : Fin 1024 → Fin 256 → EReal) (g : EReal) (wd : Fin 256 → EReal)
    (h0 : 0 ≤ g) (h1 : g < ⊤) :
    contrib x wg wu g wd = g * ∑ f : Fin 256, hid (∑ k, x k * wg k f) (∑ k, x k * wu k f) * wd f := by
  lift g to ℝ using ⟨h1.ne, (lt_of_lt_of_le EReal.bot_lt_zero h0).ne'⟩ with r
  have hg : (r : EReal) + ((r : EReal) - (r : EReal)) = (r : EReal) := by
    rw [← EReal.coe_sub, sub_self, EReal.coe_zero, add_zero]
  unfold contrib
  rw [hg]
  exact sum_mul_coe r (by exact_mod_cast h0) _ _

/-- The kernel's sum over the experts is the reference's. -/
theorem acc_eq (X : FVec Ideal S16384x1024 .bf16) (g : FVec Ideal S16384x128 .f32)
    (Wg Wu : FVec Ideal S1x64x1024x256 .f32) (Wd : FVec Ideal S1x64x256x1024 .f32)
    (Sg Su : FVec Ideal S1x1024x256 .f32) (Sd : FVec Ideal S1x256x1024 .f32) (n : Fin 16384) (d : Fin 1024)
    (h0 : ∀ e : Fin 64, 0 ≤ g (ix2 n ⟨e.val, by omega⟩)) (h1 : ∀ e : Fin 64, g (ix2 n ⟨e.val, by omega⟩) < ⊤)
    (hs : g (ix2 n ⟨64, by omega⟩) = 1) :
    acc X g Wg Wu Wd Sg Su Sd n d = val_main_v25 (F := Ideal) X g Wg Wu Wd Sg Su Sd (ix2 n d) := by
  rw [val_main_v25_apply, v16_at, v24_at]
  unfold acc
  rw [Fin.sum_univ_castSucc]
  refine congrArg₂ (fun a b : EReal => a + b) (Finset.sum_congr rfl fun e _ => ?_) ?_
  · refine (contrib_eq _ _ _ _ _ (h0 e) (h1 e)).trans ?_
    have he : (Fin.castSucc e : Fin 65).val < 64 := e.isLt
    simp only [up, down, dif_pos he]
    rfl
  · have hl : ¬ (Fin.last 64 : Fin 65).val < 64 := by decide
    have hg : g (ix2 n ⟨(Fin.last 64 : Fin 65).val, by decide⟩) = 1 := hs
    refine (contrib_eq _ _ _ _ _ (by rw [hg]; exact zero_le_one) (by rw [hg]; exact EReal.coe_lt_top 1)).trans ?_
    rw [hg, one_mul]
    simp only [up, down, dif_neg hl]

/-- What the precondition says of the gates of a row. -/
theorem gates_of_pre (X : FVec Ideal S16384x1024 .bf16) (g : FVec Ideal S16384x128 .f32) (x1 : FVec Ideal S16384x1024 .f32)
    (mo : FVec Ideal S16x1x6144 .f32) (Wg Wu : FVec Ideal S1x64x1024x256 .f32) (Wd : FVec Ideal S1x64x256x1024 .f32)
    (Sg Su : FVec Ideal S1x1024x256 .f32) (Sd : FVec Ideal S1x256x1024 .f32) (gp : FVec Ideal S1x1024 .f32)
    (h : Cert.Pre_gates_tame.fn X g x1 mo Wg Wu Wd Sg Su Sd gp = fun _ => 1#1) (n : Fin 16384) (e : Fin 64) :
    0 ≤ g (ix2 n ⟨e.val, by omega⟩) ∧ g (ix2 n ⟨e.val, by omega⟩) < ⊤ ∧ g (ix2 n ⟨64, by omega⟩) = 1 := by
  have h' := congrFun h (ix2 n e)
  revert h'
  pointwise [Cert.Pre_gates_tame.fn]
  intro h'
  obtain ⟨h12, h3⟩ := and_bits h'
  obtain ⟨h1, h2⟩ := and_bits h12
  exact ⟨of_bit h1, lt_of_lt_of_eq (of_bit h2) ofBits_inf, of_bit h3⟩

/-- The kernel's result array, from arguments the precondition holds of, is the reference's. -/
theorem out_eq (X : FVec Ideal S16384x1024 .bf16) (g : FVec Ideal S16384x128 .f32) (x1 : FVec Ideal S16384x1024 .f32)
    (mo : FVec Ideal S16x1x6144 .f32) (Wg Wu : FVec Ideal S1x64x1024x256 .f32) (Wd : FVec Ideal S1x64x256x1024 .f32)
    (Sg Su : FVec Ideal S1x1024x256 .f32) (Sd : FVec Ideal S1x256x1024 .f32) (gp : FVec Ideal S1x1024 .f32)
    (h : Cert.Pre_gates_tame.fn X g x1 mo Wg Wu Wd Sg Su Sd gp = fun _ => 1#1) (n : Fin 16384) (d : Fin 1024) :
    outAt X g x1 mo Wg Wu Wd Sg Su Sd gp n d = val_main_v52 (F := Ideal) X g x1 mo Wg Wu Wd Sg Su Sd gp (ix2 n d) := by
  have hp := gates_of_pre X g x1 mo Wg Wu Wd Sg Su Sd gp h n
  rw [v52_at]
  unfold outAt
  refine congrArg (fun a => normed _ _ _ a d) (funext fun k => ?_)
  exact acc_eq X g Wg Wu Wd Sg Su Sd n k (fun e => (hp e).1) (fun e => (hp e).2.1) (hp 0).2.2

end Cert.MoeRefIdeal.At
-- ==== Proof.Attn.Block.lean ====
module

public import proofs.«01_k».proof.Proof.Gen.AttnIdeal.Frame
public import Idealize.ShloMosaic.Lib.Pointwise
public import Idealize.ShloMosaic.Lib.Pipeline.ValueKit

/-! What one block of the attention call computes: 128 query rows of eight heads against one sequence's keys and values,
two neighbouring heads' 64 lanes side by side. -/

@[expose] public section

set_option maxRecDepth 16384

noncomputable section

namespace Cert.AttnIdeal.Block

open Idealize.ShloMosaic Idealize.ShloMosaic.TcCoe Idealize.SL.Sem
open Cert.AttnIdeal Cert.AttnIdeal.Gen

/-- A query's score against key `l`, over the padded lanes. -/
def score (q : Fin 128 → EReal) (K : Fin 2304 → Fin 128 → EReal) (l : Fin 2304) : EReal := ∑ x, q x * K l x

/-- The exponential of each score less the greatest. -/
def weight {n : ℕ} (s : Fin n → EReal) (l : Fin n) : EReal :=
  Ideal.exp (s l - Finset.fold max (Ideal.ofBits FTy.f32 4286578688#32) s Finset.univ)

/-- One lane of one head: the weighted sum of the values, divided by the sum of the weights. -/
def attend (q : Fin 128 → EReal) (K : Fin 2304 → Fin 128 → EReal) (v : Fin 2304 → EReal) : EReal :=
  Ideal.div (∑ l, weight (score q K) l * v l) (∑ l, weight (score q K) l)

/-- The lane half a head further round. -/
def rot (l : Fin 128) : Fin 128 := ⟨(l.val + 128 - 64) % 128, Nat.mod_lt _ (by decide)⟩

section Payload

variable (k v : FVec Ideal S1x2304x128 .bf16) (q0 q1 q2 q3 : FVec Ideal S128x128 .bf16) (r d : Fin 128)

theorem head0 : k0_pay4 (F := Ideal) k v q0 q1 q2 q3 (ix2 ⟨r.val, by omega⟩ d)
    = attend (fun x => q0 (ix2 r x)) (fun l x => k (ix3 0 l x)) (fun l => v (ix3 0 l d)) := by
  pointwise [k0_pay4]
  rfl

theorem head1 : k0_pay4 (F := Ideal) k v q0 q1 q2 q3 (ix2 ⟨128 + r.val, by omega⟩ d)
    = attend (fun x => q1 (ix2 r x)) (fun l x => k (ix3 0 l x)) (fun l => v (ix3 0 l d)) := by
  pointwise [k0_pay4]
  rfl

theorem head2 : k0_pay4 (F := Ideal) k v q0 q1 q2 q3 (ix2 ⟨256 + r.val, by omega⟩ d)
    = attend (fun x => q2 (ix2 r x)) (fun l x => k (ix3 0 l x)) (fun l => v (ix3 0 l d)) := by
  pointwise [k0_pay4]
  have e : ∀ p : 256 + r.val - 128 - 128 < 128, (⟨256 + r.val - 128 - 128, p⟩ : Fin 128) = r := fun p => Fin.ext (by show 256 + r.val - 128 - 128 = r.val; omega)
  simp only [dif_neg (by omega : ¬ 256 + r.val < 128), dif_neg (by omega : ¬ 256 + r.val - 128 < 128), dif_pos (by omega : 256 + r.val - 128 - 128 < 128), e]
  rfl

theorem head3 : k0_pay4 (F := Ideal) k v q0 q1 q2 q3 (ix2 ⟨384 + r.val, by omega⟩ d)
    = attend (fun x => q3 (ix2 r x)) (fun l x => k (ix3 0 l x)) (fun l => v (ix3 0 l d)) := by
  pointwise [k0_pay4]
  have e : ∀ p : 384 + r.val - 128 - 128 - 128 < 128, (⟨384 + r.val - 128 - 128 - 128, p⟩ : Fin 128) = r := fun p => Fin.ext (by show 384 + r.val - 128 - 128 - 128 = r.val; omega)
  simp only [dif_neg (by omega : ¬ 384 + r.val < 128), dif_neg (by omega : ¬ 384 + r.val - 128 < 128), dif_neg (by omega : ¬ 384 + r.val - 128 - 128 < 128), e]
  rfl

theorem pair0 : k0_pay5 (F := Ideal) k v q0 q1 q2 q3 (ix2 r d)
    = attend (fun x => q0 (ix2 r x)) (fun l x => k (ix3 0 l x)) (fun l => v (ix3 0 l d))
      + attend (fun x => q1 (ix2 r x)) (fun l x => k (ix3 0 l x)) (fun l => v (ix3 0 l (rot d))) := by
  rw [← head0 k v q0 q1 q2 q3, ← head1 k v q0 q1 q2 q3]
  unfold k0_pay5
  generalize k0_pay4 (F := Ideal) k v q0 q1 q2 q3 = y
  pointwise
  rfl

theorem pair1 : k0_pay6 (F := Ideal) k v q0 q1 q2 q3 (ix2 r d)
    = attend (fun x => q2 (ix2 r x)) (fun l x => k (ix3 0 l x)) (fun l => v (ix3 0 l d))
      + attend (fun x => q3 (ix2 r x)) (fun l x => k (ix3 0 l x)) (fun l => v (ix3 0 l (rot d))) := by
  rw [← head2 k v q0 q1 q2 q3, ← head3 k v q0 q1 q2 q3]
  unfold k0_pay6
  generalize k0_pay4 (F := Ideal) k v q0 q1 q2 q3 = y
  pointwise
  rfl

/-- The second key-value head's payloads are the first's, of its own loads. -/
theorem pair0' : k0_pay2 (F := Ideal) k v q0 q1 q2 q3 = k0_pay5 k v q0 q1 q2 q3 := rfl
theorem pair1' : k0_pay3 (F := Ideal) k v q0 q1 q2 q3 = k0_pay6 k v q0 q1 q2 q3 := rfl

end Payload

/-- Row `r`, lane `d` of the pair `b` of heads, from the blocks. -/
def pairAt (x0 : FVec Ideal S128x1024 .bf16) (x1 x2 : FVec Ideal S1x2304x256 .bf16) (r : Fin 128) (b : Fin 4)
    (d : Fin 128) : EReal :=
  attend (fun x => x0 (ix2 r ⟨256 * b.val + x.val, by omega⟩)) (fun l x => x1 (ix3 0 l ⟨128 * (b.val / 2) + x.val, by omega⟩))
      (fun l => x2 (ix3 0 l ⟨128 * (b.val / 2) + d.val, by omega⟩))
    + attend (fun x => x0 (ix2 r ⟨256 * b.val + 128 + x.val, by omega⟩))
      (fun l x => x1 (ix3 0 l ⟨128 * (b.val / 2) + x.val, by omega⟩))
      (fun l => x2 (ix3 0 l ⟨128 * (b.val / 2) + (rot d).val, by omega⟩))

theorem attend_congr {q q' : Fin 128 → EReal} {K K' : Fin 2304 → Fin 128 → EReal} {v v' : Fin 2304 → EReal}
    (hq : ∀ x, q x = q' x) (hK : ∀ l x, K l x = K' l x) (hv : ∀ l, v l = v' l) : attend q K v = attend q' K' v' := by
  rw [funext hq, funext fun l => funext (hK l), funext hv]

theorem out_at (x0 : FVec Ideal S128x1024 .bf16) (x1 x2 : FVec Ideal S1x2304x256 .bf16) (y : S128x512.Idx) :
    out0_3 (F := Ideal) x0 x1 x2 y
      = pairAt x0 x1 x2 (y 0) ⟨(y 1).val / 128, by have := (y 1).isLt; change _ < 512 at this; omega⟩
          ⟨(y 1).val % 128, Nat.mod_lt _ (by decide)⟩ := by
  have key : ∀ (b : Fin 4) (x : S128x128.Idx), (y 0).val = (x 0).val → (y 1).val = 128 * b.val + (x 1).val →
      pairAt x0 x1 x2 (y 0) ⟨(y 1).val / 128, by have := (y 1).isLt; change _ < 512 at this; omega⟩
          ⟨(y 1).val % 128, Nat.mod_lt _ (by decide)⟩ = pairAt x0 x1 x2 (x 0) b (x 1) := fun b x h0 h1 => by
    have hx : (x 1).val < 128 := (x 1).isLt
    have e0 : y 0 = x 0 := Fin.ext h0
    have e1 : ∀ p, (⟨(y 1).val / 128, p⟩ : Fin 4) = b := fun p => Fin.ext (by show (y 1).val / 128 = b.val; omega)
    have e2 : ∀ p, (⟨(y 1).val % 128, p⟩ : Fin 128) = x 1 := fun p => Fin.ext (by show (y 1).val % 128 = (x 1).val; omega)
    rw [e0, e1, e2]
  canon_tiles x h
  case piece0 =>
    rw [key 3 x h0 (by show _ = 128 * 3 + _; omega)]
    obtain ⟨r, d, rfl⟩ : ∃ r d : Fin 128, x = ix2 r d := ⟨x 0, x 1, eq_ix2 x⟩
    rw [pair1', pair1]
    show _ = pairAt x0 x1 x2 r 3 d
    unfold pairAt
    refine congrArg₂ (· + ·) (attend_congr (fun x => ?_) (fun l x => ?_) fun l => ?_) (attend_congr (fun x => ?_) (fun l x => ?_) fun l => ?_)
    all_goals (pointwise; blk_ext [])
  case piece1 =>
    rw [key 2 x h0 (by show _ = 128 * 2 + _; omega)]
    obtain ⟨r, d, rfl⟩ : ∃ r d : Fin 128, x = ix2 r d := ⟨x 0, x 1, eq_ix2 x⟩
    rw [pair0', pair0]
    show _ = pairAt x0 x1 x2 r 2 d
    unfold pairAt
    refine congrArg₂ (· + ·) (attend_congr (fun x => ?_) (fun l x => ?_) fun l => ?_) (attend_congr (fun x => ?_) (fun l x => ?_) fun l => ?_)
    all_goals (pointwise; blk_ext [])
  case piece2 =>
    rw [key 1 x h0 (by show _ = 128 * 1 + _; omega)]
    obtain ⟨r, d, rfl⟩ : ∃ r d : Fin 128, x = ix2 r d := ⟨x 0, x 1, eq_ix2 x⟩
    rw [pair1]
    show _ = pairAt x0 x1 x2 r 1 d
    unfold pairAt
    refine congrArg₂ (· + ·) (attend_congr (fun x => ?_) (fun l x => ?_) fun l => ?_) (attend_congr (fun x => ?_) (fun l x => ?_) fun l => ?_)
    all_goals (pointwise; blk_ext [])
  case piece3 =>
    rw [key 0 x h0 (by show _ = 128 * 0 + _; omega)]
    obtain ⟨r, d, rfl⟩ : ∃ r d : Fin 128, x = ix2 r d := ⟨x 0, x 1, eq_ix2 x⟩
    rw [pair0]
    show _ = pairAt x0 x1 x2 r 0 d
    unfold pairAt
    refine congrArg₂ (· + ·) (attend_congr (fun x => ?_) (fun l x => ?_) fun l => ?_) (attend_congr (fun x => ?_) (fun l x => ?_) fun l => ?_)
    all_goals (pointwise; blk_ext [])

end Cert.AttnIdeal.Block
-- ==== Proof.Attn.Array.lean ====
module

public import proofs.«01_k».proof.Proof.Attn.Block
public import proofs.«01_k».proof.Proof.Gen.AttnIdeal.Value
public import Idealize.ShloMosaic.Lib.Claim

/-! What the attention call finds in its key and value arrays, and what its result array holds. -/

@[expose] public section

set_option maxRecDepth 16384

noncomputable section

namespace Cert.AttnIdeal.Array

open Idealize.ShloMosaic Idealize.ShloMosaic.TcCoe Idealize.SL.Sem
open Cert.AttnIdeal Cert.AttnIdeal.Gen Cert.AttnIdeal.Block

variable (m : (ℓ : Loc nD τ sig) → Buf (Elt Ideal) ℓ)

/-- The keys (or values) of batch `b` and head `g`: the 256 cached ones, with zero lanes past the head's 64, then the
new ones. -/
def kv (C : FVec Ideal S8x1x256x2x64 .f32) (N : FVec Ideal S16384x256 .bf16) (b : Fin 8) (g : Fin 2) (l : Fin 2304)
    (x : Fin 128) : EReal :=
  if hl : l.val < 256 then (if hx : x.val < 64 then C (ix5 b 0 ⟨l.val, hl⟩ g ⟨x.val, hx⟩) else 0)
  else N (ix2 ⟨2048 * b.val + (l.val - 256), by omega⟩ ⟨128 * g.val + x.val, by omega⟩)

/-- The zero the padding fills with. -/
theorem zero_word : FloatOps.sitofp (F := Ideal) FTy.f32 (0#32) = (0 : EReal) := by
  show (((0#32 : BitVec 32).toInt : ℝ) : EReal) = 0
  simp

/-- The joined array read through the flattening of the heads. -/
theorem kv_eq (C : FVec Ideal S8x1x256x2x64 .f32) (N : FVec Ideal S16384x256 .bf16) (b : Fin 8) (g : Fin 2) (l : Fin 2304)
    (x : Fin 128) :
    (if h : l.val < 256 then
      if h1 : (128 * g.val + x.val) / 128 < 2 ∧ (128 * g.val + x.val) % 128 < 64 then
        C (ix5 ⟨(b.val * 256 + l.val) / 256, by omega⟩ 0 ⟨(b.val * 256 + l.val) % 256, by omega⟩
          ⟨(128 * g.val + x.val) / 128, h1.1⟩ ⟨(128 * g.val + x.val) % 128, h1.2⟩)
      else FloatOps.sitofp (F := Ideal) FTy.f32 (0#32)
    else N (ix2 ⟨b.val * 2048 + (l.val - 256), by omega⟩ ⟨128 * g.val + x.val, by omega⟩)) = kv C N b g l x := by
  unfold kv
  by_cases hl : l.val < 256
  · rw [dif_pos hl, dif_pos hl]
    by_cases hx : x.val < 64
    · rw [dif_pos (by omega), dif_pos hx]
      refine congrArg C ?_
      blk_ext []
    · rw [dif_neg (by omega), dif_neg hx]
      exact zero_word
  · rw [dif_neg hl, dif_neg hl]
    refine congrArg N ?_
    blk_ext []

/-- The keys the call reads. -/
theorem V_k (c : Dev nD) (b : Fin 8) (g : Fin 2) (l : Fin 2304) (x : Fin 128) :
    V m c main_v10 (ix3 b l ⟨128 * g.val + x.val, by omega⟩)
      = kv (m ((c : Thread nD τ).loc main_arg3)) (m ((c : Thread nD τ).loc main_arg1)) b g l x := by
  simp only [V, hostOps0, hostOps0_1, hostOps0_2, hostOps0_3, hostOps0_4, List.flatten_cons, List.flatten_nil, List.append_nil,
    List.cons_append, List.nil_append]
  entry_read
  simp only [StableHlo.TRef.toBuf, StableHlo.TRef.ofBuf, cast_cast, cast_eq]
  pointwise
  exact kv_eq _ _ b g l x

/-- The values the call reads. -/
theorem V_v (c : Dev nD) (b : Fin 8) (g : Fin 2) (l : Fin 2304) (x : Fin 128) :
    V m c main_v17 (ix3 b l ⟨128 * g.val + x.val, by omega⟩)
      = kv (m ((c : Thread nD τ).loc main_arg4)) (m ((c : Thread nD τ).loc main_arg2)) b g l x := by
  simp only [V, hostOps0, hostOps0_1, hostOps0_2, hostOps0_3, hostOps0_4, List.flatten_cons, List.flatten_nil, List.append_nil,
    List.cons_append, List.nil_append]
  entry_read
  simp only [StableHlo.TRef.toBuf, StableHlo.TRef.ofBuf, cast_cast, cast_eq]
  pointwise
  exact kv_eq _ _ b g l x

/-- The windows' block indices at grid point `t`: row block `t`, batch `t / 16`. -/
theorem idx : ∀ t : Fin cfg0.N, win0_0.index t = ![t.val, 0] ∧ win0_1.index t = ![t.val / 16, 0, 0]
    ∧ win0_2.index t = ![t.val / 16, 0, 0] ∧ win0_3.index t = ![t.val, 0] :=
  (by decide +kernel : ∀ t : Fin grid0.N, _)

/-- Lane `d` of the pair `b` of heads at row `n`: the pair's first head's lane, and its second head's lane a half turn
away. -/
def pairOut (Q : FVec Ideal S16384x1024 .bf16) (KC : FVec Ideal S8x1x256x2x64 .f32) (KN : FVec Ideal S16384x256 .bf16)
    (VC : FVec Ideal S8x1x256x2x64 .f32) (VN : FVec Ideal S16384x256 .bf16) (n : Fin 16384) (b : Fin 4) (d : Fin 128) : EReal :=
  attend (fun x => Q (ix2 n ⟨256 * b.val + x.val, by omega⟩)) (kv KC KN ⟨n.val / 2048, by omega⟩ ⟨b.val / 2, by omega⟩)
      (fun l => kv VC VN ⟨n.val / 2048, by omega⟩ ⟨b.val / 2, by omega⟩ l d)
    + attend (fun x => Q (ix2 n ⟨256 * b.val + 128 + x.val, by omega⟩)) (kv KC KN ⟨n.val / 2048, by omega⟩ ⟨b.val / 2, by omega⟩)
      (fun l => kv VC VN ⟨n.val / 2048, by omega⟩ ⟨b.val / 2, by omega⟩ l (rot d))

abbrev aQ (c : Dev nD) : FVec Ideal S16384x1024 .bf16 := m ((c : Thread nD τ).loc main_arg0)
abbrev aKN (c : Dev nD) : FVec Ideal S16384x256 .bf16 := m ((c : Thread nD τ).loc main_arg1)
abbrev aVN (c : Dev nD) : FVec Ideal S16384x256 .bf16 := m ((c : Thread nD τ).loc main_arg2)
abbrev aKC (c : Dev nD) : FVec Ideal S8x1x256x2x64 .f32 := m ((c : Thread nD τ).loc main_arg3)
abbrev aVC (c : Dev nD) : FVec Ideal S8x1x256x2x64 .f32 := m ((c : Thread nD τ).loc main_arg4)

/-- The blocks a grid point reads. -/
abbrev bQ (c : Dev nD) (t : Fin cfg0.N) : FVec Ideal S128x1024 .bf16 := iblk m c 0 t
abbrev bK (c : Dev nD) (t : Fin cfg0.N) : FVec Ideal S1x2304x256 .bf16 := iblk m c 1 t
abbrev bV (c : Dev nD) (t : Fin cfg0.N) : FVec Ideal S1x2304x256 .bf16 := iblk m c 2 t

/-- The result array. -/
def outArr (c : Dev nD) : FVec Ideal S16384x512 .f32 := fun i =>
  pairOut (aQ m c) (aKC m c) (aKN m c) (aVC m c) (aVN m c) (i 0)
    ⟨(i 1).val / 128, by have := (i 1).isLt; change _ < 512 at this; omega⟩ ⟨(i 1).val % 128, Nat.mod_lt _ (by decide)⟩

/-- What a grid point computes for a row of its block. -/
theorem pair_eq (c : Dev nD) (t : Fin cfg0.N) (r : Fin 128) (b : Fin 4) (d : Fin 128) (n : Fin 16384)
    (hn : n.val = 128 * t.val + r.val) : pairAt (bQ m c t) (bK m c t) (bV m c t) r b d
      = pairOut (aQ m c) (aKC m c) (aKN m c) (aVC m c) (aVN m c) n b d := by
  have hN : t.val < 128 := lt_of_lt_of_eq t.isLt (show cfg0.N = 128 from N_0)
  have h0 : ∀ x : Fin 1024, bQ m c t (ix2 r x) = aQ m c (ix2 n x) := fun x => by blk_ext [bQ, iblk, V, idx t]
  have h1 : ∀ (g : Fin 2) (l : Fin 2304) (x : Fin 128), bK m c t (ix3 0 l ⟨128 * g.val + x.val, by omega⟩)
      = kv (aKC m c) (aKN m c) ⟨n.val / 2048, by omega⟩ g l x := fun g l x =>
    Eq.trans (by blk_ext [bK, iblk, idx t]) (V_k m c _ g l x)
  have h2 : ∀ (g : Fin 2) (l : Fin 2304) (x : Fin 128), bV m c t (ix3 0 l ⟨128 * g.val + x.val, by omega⟩)
      = kv (aVC m c) (aVN m c) ⟨n.val / 2048, by omega⟩ g l x := fun g l x =>
    Eq.trans (by blk_ext [bV, iblk, idx t]) (V_v m c _ g l x)
  unfold pairAt pairOut
  exact congrArg₂ (fun a b : EReal => a + b)
    (attend_congr (fun x => h0 _) (fun l x => h1 ⟨b.val / 2, by omega⟩ l x) fun l => h2 ⟨b.val / 2, by omega⟩ l d)
    (attend_congr (fun x => h0 _) (fun l x => h1 ⟨b.val / 2, by omega⟩ l x) fun l => h2 ⟨b.val / 2, by omega⟩ l (rot d))

/-- The call's result array. -/
theorem final (c : Dev nD) : (dats m 0 c).arrAt 3 cfg0.N = outArr m c := by
  refine (dats m 0 c).arrAt_eq_of_covers 3 _ (by decide +kernel) fun t hf y => ?_
  blk_simp
  rw [after0_3]
  have hN : t.val < 128 := lt_of_lt_of_eq t.isLt (show cfg0.N = 128 from N_0)
  idx_vars y
  refine (out_at (bQ m c t) (bK m c t) (bV m c t) _).trans ?_
  refine (pair_eq m c t _ _ _ ⟨128 * t.val + y0.val, by omega⟩ rfl).trans ?_
  show outArr m c (ix2 ⟨128 * t.val + y0.val, by omega⟩ y1) = _
  blk_ext [idx t]

end Cert.AttnIdeal.Array
-- ==== Proof.Attn.Ref.lean ====
module

public import proofs.«01_k».proof.Proof.Gen.AttnRefIdeal.Read
public import Idealize.ShloMosaic.Lib.Pointwise
public import Idealize.ShloMosaic.Lib.Pipeline.ValueKit

/-! What the attention reference computes: for each query the softmax of its scores over the cached and the new keys,
and the values summed with these weights. -/

@[expose] public section

set_option maxRecDepth 16384

noncomputable section

namespace Cert.AttnRefIdeal.At

open Idealize.ShloMosaic Idealize.ShloMosaic.TcCoe Idealize.SL.Sem
open Cert.AttnRefIdeal Cert.AttnRefIdeal.Gen Cert.AttnRefIdeal.Read

/-- The keys (or values) of batch `b` and head `g`: the 256 cached ones, then the new ones. -/
def kv (C : FVec Ideal S8x1x256x2x64 .f32) (N : FVec Ideal S16384x256 .bf16) (b : Fin 8) (g : Fin 2) (l : Fin 2304)
    (e : Fin 64) : EReal :=
  if hl : l.val < 256 then C (ix5 b 0 ⟨l.val, hl⟩ g e)
  else N (ix2 ⟨2048 * b.val + (l.val - 256), by omega⟩ ⟨128 * g.val + e.val, by omega⟩)

/-- The query of position `t` of batch `b`, head `j` of the four that share the keys of head `g`. -/
def qr (Q : FVec Ideal S16384x1024 .bf16) (b : Fin 8) (g : Fin 2) (j : Fin 4) (t : Fin 2048) (e : Fin 64) : EReal :=
  Q (ix2 ⟨2048 * b.val + t.val, by omega⟩ ⟨128 * (4 * g.val + j.val) + e.val, by omega⟩)

theorem v10_at (x1 : FVec Ideal S16384x256 .bf16) (x3 : FVec Ideal S8x1x256x2x64 .f32) (b : Fin 8) (l : Fin 2304)
    (g : Fin 2) (e : Fin 64) : val_main_v10 (F := Ideal) x1 x3 (ix4 b l g e) = kv x3 x1 b g l e := by
  pointwise [val_main_v10, val_main_v9, val_main_v5, val_main_v4, val_main_v3]
  unfold kv
  by_cases hl : l.val < 256
  · rw [dif_pos hl, dif_pos hl]
  · rw [dif_neg hl, dif_neg hl]
    blk_ext []

theorem v12_at (x2 : FVec Ideal S16384x256 .bf16) (x4 : FVec Ideal S8x1x256x2x64 .f32) (b : Fin 8) (l : Fin 2304)
    (g : Fin 2) (e : Fin 64) : val_main_v12 (F := Ideal) x2 x4 (ix4 b l g e) = kv x4 x2 b g l e := by
  pointwise [val_main_v12, val_main_v11, val_main_v8, val_main_v7, val_main_v6]
  unfold kv
  by_cases hl : l.val < 256
  · rw [dif_pos hl, dif_pos hl]
  · rw [dif_neg hl, dif_neg hl]
    blk_ext []

theorem v13_at (x0 : FVec Ideal S16384x1024 .bf16) (b : Fin 8) (t : Fin 2048) (g : Fin 2) (j : Fin 4) (e : Fin 64) :
    val_main_v13 (F := Ideal) x0 (ix5 b t g j e) = qr x0 b g j t e := by
  pointwise [val_main_v13, val_main_v2, val_main_v1, val_main_v0]
  unfold qr
  blk_ext []

/-- The scores of a query. -/
def scores (q : Fin 64 → EReal) (K : Fin 2304 → Fin 64 → EReal) (l : Fin 2304) : EReal := ∑ e : Fin 64, K l e * q e

/-- The greatest of the scores. -/
def top (s : Fin 2304 → EReal) : EReal :=
  max (Ideal.ofBits FTy.f32 4286578688#32) (Finset.fold max (Ideal.ofBits FTy.f32 4286578688#32) s Finset.univ)

/-- The weights before they are divided by their sum. -/
def weight (s : Fin 2304 → EReal) (l : Fin 2304) : EReal := Ideal.exp (s l - top s)

/-- The softmax. -/
def soft (s : Fin 2304 → EReal) (l : Fin 2304) : EReal :=
  Ideal.div (weight s l) (∑ l : Fin 2304, weight s l)

/-- A reduction by the maximum along the last axis. -/
theorem fold_at (y : FVec Ideal S8x2x4x2048x2304 .f32) (z : FVec Ideal S_ .f32) (b : Fin 8) (g : Fin 2) (j : Fin 4)
    (t : Fin 2048) :
    Host.reduce FloatOps.maximumf y z reducesTo_S8x2x4x2048x2304_S8x2x4x2048_d4 h_S_ (ix4 b g j t)
      = Finset.fold max (z (Shape.Idx.first h_S_)) (fun l : Fin 2304 => y (ix5 b g j t l)) Finset.univ := by
  pointwise

section

variable (x0 : FVec Ideal S16384x1024 .bf16) (x1 x2 : FVec Ideal S16384x256 .bf16) (x3 x4 : FVec Ideal S8x1x256x2x64 .f32)
  (b : Fin 8) (g : Fin 2) (j : Fin 4) (t : Fin 2048)

theorem v15_at (l : Fin 2304) : val_main_v15 (F := Ideal) x0 x1 x3 (ix5 b g j t l)
    = scores (qr x0 b g j t) (kv x3 x1 b g) l := by
  rw [val_main_v15_apply, val_main_v14_apply]
  refine Finset.sum_congr rfl fun e _ => congrArg₂ (fun a b : EReal => a * b) ?_ ?_
  · exact (congrArg _ (by blk_ext [])).trans (v10_at x1 x3 b l g e)
  · exact (congrArg _ (by blk_ext [])).trans (v13_at x0 b t g j e)

theorem v16_at : val_main_v16 (F := Ideal) x0 x1 x3 (ix4 b g j t)
    = Finset.fold max (Ideal.ofBits FTy.f32 4286578688#32) (scores (qr x0 b g j t) (kv x3 x1 b g)) Finset.univ := by
  have h : ∀ l, val_main_v15 (F := Ideal) x0 x1 x3 (ix5 b g j t l) = scores (qr x0 b g j t) (kv x3 x1 b g) l :=
    fun l => v15_at x0 x1 x3 b g j t l
  revert h
  unfold val_main_v16
  generalize val_main_v15 (F := Ideal) x0 x1 x3 = y
  generalize scores (qr x0 b g j t) (kv x3 x1 b g) = s
  intro h
  rw [fold_at, funext h, val_main_cst_apply]
  rfl

theorem v18_at : val_main_v18 (F := Ideal) x0 x1 x3 (ix4 b g j t) = top (scores (qr x0 b g j t) (kv x3 x1 b g)) := by
  rw [val_main_v18_apply, v16_at, val_main_v17_apply, val_main_cst_0_apply]
  generalize scores (qr x0 b g j t) (kv x3 x1 b g) = s
  rfl

theorem v22_at (l : Fin 2304) : val_main_v22 (F := Ideal) x0 x1 x3 (ix5 b g j t l)
    = weight (scores (qr x0 b g j t) (kv x3 x1 b g)) l := by
  pointwise [val_main_v22, val_main_v21, val_main_v20, val_main_v19]
  simp only [v15_at, v18_at]
  rfl

theorem v26_at (l : Fin 2304) : val_main_v26 (F := Ideal) x0 x1 x3 (ix5 b g j t l)
    = soft (scores (qr x0 b g j t) (kv x3 x1 b g)) l := by
  pointwise [val_main_v26, val_main_v25, val_main_v24, val_main_v23, val_main_cst_1]
  simp only [v22_at]
  rfl

theorem v29_at (e : Fin 64) : val_main_v29 (F := Ideal) x0 x1 x2 x3 x4
      (ix2 ⟨2048 * b.val + t.val, by omega⟩ ⟨64 * (4 * g.val + j.val) + e.val, by omega⟩)
    = ∑ l : Fin 2304, kv x4 x2 b g l e * soft (scores (qr x0 b g j t) (kv x3 x1 b g)) l := by
  rw [val_main_v29_apply, val_main_v28_apply, val_main_v27_apply]
  refine Finset.sum_congr rfl fun l _ => congrArg₂ (fun a b : EReal => a * b) ?_ ?_
  · refine (congrArg _ ?_).trans (v12_at x2 x4 b l g e)
    blk_ext []
  · refine (congrArg _ ?_).trans (v26_at x0 x1 x3 b g j t l)
    blk_ext []

end

end Cert.AttnRefIdeal.At
-- ==== Proof.Attn.Equation.lean ====
module

public import proofs.«01_k».proof.Proof.Tame
public import proofs.«01_k».proof.Proof.Gen.Pre_heads_tame
public import proofs.«01_k».proof.Proof.Attn.Array
public import proofs.«01_k».proof.Proof.Attn.Ref

/-! The attention call's result is the reference's, where queries, keys and cached keys are finite and the upper lanes of
queries and values are zero. -/

@[expose] public section

set_option maxRecDepth 16384

noncomputable section

namespace Cert.AttnIdeal.Equation

open Idealize.ShloMosaic Idealize.ShloMosaic.TcCoe Idealize.SL.Sem
open Cert.Tame Cert.AttnIdeal Cert.AttnIdeal.Gen Cert.AttnIdeal.Block Cert.AttnIdeal.Array
open Cert.AttnRefIdeal.At (qr scores top soft)

/-- The bits of the least value. -/
theorem ofBits_bot : Ideal.ofBits FTy.f32 4286578688#32 = ⊥ := by
  simp [Ideal.ofBits, Ideal.ieee]

/-- The greatest of real scores is real. -/
theorem top_real (s : Fin 2304 → ℝ) :
    ∃ M : ℝ, Finset.fold max (Ideal.ofBits FTy.f32 4286578688#32) (fun l => (s l : EReal)) Finset.univ = (M : EReal) := by
  rw [ofBits_bot]
  have h1 : Finset.fold max ⊥ (fun l => (s l : EReal)) Finset.univ < ⊤ :=
    (Finset.fold_max_lt _).2 ⟨bot_lt_top, fun l _ => EReal.coe_lt_top _⟩
  have h2 : ⊥ < Finset.fold max ⊥ (fun l => (s l : EReal)) Finset.univ :=
    (Finset.lt_fold_max _).2 (Or.inr ⟨0, Finset.mem_univ _, EReal.bot_lt_coe _⟩)
  exact ⟨_, (EReal.coe_toReal h1.ne h2.ne').symm⟩

/-- The reference's weights are the kernel's. -/
theorem weight_eq (s : Fin 2304 → EReal) (l : Fin 2304) : Cert.AttnRefIdeal.At.weight s l = weight s l := by
  unfold Cert.AttnRefIdeal.At.weight weight top
  rw [max_eq_right]
  rw [ofBits_bot]
  exact bot_le

/-- The weights of real scores are real and positive, and so is their sum. -/
theorem weight_real (s : Fin 2304 → ℝ) :
    ∃ d : ℝ, 0 < d ∧ ∑ l, weight (fun l => (s l : EReal)) l = (d : EReal) := by
  obtain ⟨M, hM⟩ := top_real s
  have h : ∀ l, weight (fun l => (s l : EReal)) l = ((Real.exp (s l - M) : ℝ) : EReal) := fun l => by
    unfold weight
    rw [hM, ← EReal.coe_sub, Ideal.exp_coe]
  refine ⟨∑ l, Real.exp (s l - M), Finset.sum_pos (fun l _ => Real.exp_pos _) ⟨0, Finset.mem_univ _⟩, ?_⟩
  rw [← coe_sum]
  exact Finset.sum_congr rfl fun l _ => h l

/-- Dividing the weighted sum is summing with the divided weights. -/
theorem attend_soft (q : Fin 128 → EReal) (K : Fin 2304 → Fin 128 → EReal) (v : Fin 2304 → EReal) (s : Fin 2304 → ℝ)
    (hs : ∀ l, score q K l = (s l : EReal)) : attend q K v = ∑ l, v l * soft (score q K) l := by
  obtain ⟨d, hd, hsum⟩ := weight_real s
  have hf : score q K = fun l => (s l : EReal) := funext hs
  unfold attend soft
  simp only [weight_eq]
  rw [hf, hsum]
  simp only [Ideal.div_coe hd.ne']
  have hr : (0 : ℝ) ≤ 1 / d := by positivity
  rw [mul_comm, ← sum_mul_coe (1 / d) hr]
  exact Finset.sum_congr rfl fun l _ => mul_comm _ _

/-- No values, no result. -/
theorem attend_zero (q : Fin 128 → EReal) (K : Fin 2304 → Fin 128 → EReal) (v : Fin 2304 → EReal) (s : Fin 2304 → ℝ)
    (hs : ∀ l, score q K l = (s l : EReal)) (hv : ∀ l, v l = 0) : attend q K v = 0 := by
  rw [attend_soft q K v s hs]
  exact Finset.sum_eq_zero fun l _ => by rw [hv, zero_mul]

/-- What the precondition says. -/
structure Tame (Q : FVec Ideal S16384x1024 .bf16) (KN VN : FVec Ideal S16384x256 .bf16) (KC : FVec Ideal S8x1x256x2x64 .f32) :
    Prop where
  query : ∀ (b : Fin 8) (g : Fin 2) (j : Fin 4) (t : Fin 2048) (e : Fin 64), ∃ r : ℝ, qr Q b g j t e = (r : EReal)
  query_hi : ∀ (b : Fin 8) (g : Fin 2) (j : Fin 4) (t : Fin 2048) (e : Fin 64),
    Q (ix2 ⟨2048 * b.val + t.val, by omega⟩ ⟨128 * (4 * g.val + j.val) + (64 + e.val), by omega⟩) = 0
  key : ∀ (b : Fin 8) (g : Fin 2) (t : Fin 2048) (e : Fin 64),
    ∃ r : ℝ, KN (ix2 ⟨2048 * b.val + t.val, by omega⟩ ⟨128 * g.val + e.val, by omega⟩) = (r : EReal)
  val_hi : ∀ (b : Fin 8) (g : Fin 2) (t : Fin 2048) (e : Fin 64),
    VN (ix2 ⟨2048 * b.val + t.val, by omega⟩ ⟨128 * g.val + (64 + e.val), by omega⟩) = 0
  cached : ∀ (b : Fin 8) (g : Fin 2) (l : Fin 256) (e : Fin 64), ∃ r : ℝ, KC (ix5 b 0 l g e) = (r : EReal)

/-- The precondition at one position of one head. -/
theorem pre_at (Q : FVec Ideal S16384x1024 .bf16) (KN VN : FVec Ideal S16384x256 .bf16)
    (KC VC : FVec Ideal S8x1x256x2x64 .f32) (h : Cert.Pre_heads_tame.fn Q KN VN KC VC = fun _ => 1#1)
    (b : Fin 8) (l : Fin 256) (i : Fin 8) (g : Fin 2) (j : Fin 4) (e : Fin 64) (t : Fin 2048) (ht : t.val = 8 * l.val + i.val) :
    (∃ r : ℝ, qr Q b g j t e = (r : EReal))
      ∧ Q (ix2 ⟨2048 * b.val + t.val, by omega⟩ ⟨128 * (4 * g.val + j.val) + (64 + e.val), by omega⟩) = 0
      ∧ (∃ r : ℝ, KN (ix2 ⟨2048 * b.val + t.val, by omega⟩ ⟨128 * g.val + e.val, by omega⟩) = (r : EReal))
      ∧ VN (ix2 ⟨2048 * b.val + t.val, by omega⟩ ⟨128 * g.val + (64 + e.val), by omega⟩) = 0
      ∧ ∃ r : ℝ, KC (ix5 b 0 l g e) = (r : EReal) := by
  have h' := congrFun h (ix6 b l i g j e)
  revert h'
  pointwise [Cert.Pre_heads_tame.fn, Cert.Pre_heads_tame.fn_part1]
  intro h'
  obtain ⟨h', h5⟩ := and_bits h'
  obtain ⟨h', h4⟩ := and_bits h'
  obtain ⟨h', h3⟩ := and_bits h'
  obtain ⟨h1, h2⟩ := and_bits h'
  obtain ⟨r1, hr1⟩ := real_of_abs _ (lt_of_lt_of_eq (of_bit h1) ofBits_inf)
  obtain ⟨r3, hr3⟩ := real_of_abs _ (lt_of_lt_of_eq (of_bit h3) ofBits_inf)
  refine ⟨⟨r1, Eq.trans ?_ hr1⟩, Eq.trans ?_ (of_bit h2), ⟨r3, Eq.trans ?_ hr3⟩, Eq.trans ?_ (of_bit h4),
    real_of_abs _ (lt_of_lt_of_eq (of_bit h5) ofBits_inf)⟩
  · unfold qr
    blk_ext []
  · blk_ext []
  · blk_ext []
  · blk_ext []

theorem tame_of_pre (Q : FVec Ideal S16384x1024 .bf16) (KN VN : FVec Ideal S16384x256 .bf16)
    (KC VC : FVec Ideal S8x1x256x2x64 .f32) (h : Cert.Pre_heads_tame.fn Q KN VN KC VC = fun _ => 1#1) : Tame Q KN VN KC :=
  have at_ (b : Fin 8) (g : Fin 2) (j : Fin 4) (t : Fin 2048) (e : Fin 64) :=
    pre_at Q KN VN KC VC h b ⟨t.val / 8, by omega⟩ ⟨t.val % 8, by omega⟩ g j e t (by show t.val = 8 * (t.val / 8) + t.val % 8; omega)
  ⟨fun b g j t e => (at_ b g j t e).1, fun b g j t e => (at_ b g j t e).2.1, fun b g t e => (at_ b g 0 t e).2.2.1,
    fun b g t e => (at_ b g 0 t e).2.2.2.1, fun b g l e =>
      (pre_at Q KN VN KC VC h b l 0 g 0 e ⟨8 * l.val, by omega⟩ rfl).2.2.2.2⟩

section

variable {Q : FVec Ideal S16384x1024 .bf16} {KN VN : FVec Ideal S16384x256 .bf16} {KC : FVec Ideal S8x1x256x2x64 .f32}
  (VC : FVec Ideal S8x1x256x2x64 .f32) (T : Tame Q KN VN KC) (b : Fin 8) (g : Fin 2) (j : Fin 4) (t : Fin 2048)

/-- The query the kernel reads for a head: 128 lanes. -/
def q128 (Q : FVec Ideal S16384x1024 .bf16) (b : Fin 8) (g : Fin 2) (j : Fin 4) (t : Fin 2048) (x : Fin 128) : EReal :=
  Q (ix2 ⟨2048 * b.val + t.val, by omega⟩ ⟨128 * (4 * g.val + j.val) + x.val, by omega⟩)

/-- Below the 64th lane the joined array is the reference's. -/
theorem kv_lo (C : FVec Ideal S8x1x256x2x64 .f32) (N : FVec Ideal S16384x256 .bf16) (l : Fin 2304) (e : Fin 64) :
    kv C N b g l ⟨e.val, by omega⟩ = Cert.AttnRefIdeal.At.kv C N b g l e := by
  have he : e.val < 64 := e.isLt
  unfold kv Cert.AttnRefIdeal.At.kv
  by_cases hl : l.val < 256
  · rw [dif_pos hl, dif_pos hl, dif_pos he]
  · rw [dif_neg hl, dif_neg hl]

include T

/-- Past the 64th lane the values are zero. -/
theorem v_hi (l : Fin 2304) (x : Fin 128) (hx : 64 ≤ x.val) : kv VC VN b g l x = 0 := by
  unfold kv
  by_cases hl : l.val < 256
  · rw [dif_pos hl, dif_neg (by omega)]
  · rw [dif_neg hl]
    refine Eq.trans (congrArg VN ?_) (T.val_hi b g ⟨l.val - 256, by omega⟩ ⟨x.val - 64, by omega⟩)
    blk_ext []

/-- The keys are real. -/
theorem k_real (l : Fin 2304) (e : Fin 64) : ∃ r : ℝ, Cert.AttnRefIdeal.At.kv KC KN b g l e = (r : EReal) := by
  unfold Cert.AttnRefIdeal.At.kv
  by_cases hl : l.val < 256
  · rw [dif_pos hl]
    exact T.cached b g ⟨l.val, hl⟩ e
  · rw [dif_neg hl]
    exact T.key b g ⟨l.val - 256, by omega⟩ e

/-- A score over the 128 lanes is the score over the 64. -/
theorem score_eq (l : Fin 2304) : score (q128 Q b g j t) (kv KC KN b g) l
    = scores (qr Q b g j t) (Cert.AttnRefIdeal.At.kv KC KN b g) l := by
  unfold score scores
  refine (sum_lanes _ fun e he => ?_).trans (Finset.sum_congr rfl fun e _ => ?_)
  · have hq : q128 Q b g j t e = 0 := by
      refine Eq.trans (congrArg Q ?_) (T.query_hi b g j t ⟨e.val - 64, by omega⟩)
      blk_ext []
    rw [hq, zero_mul]
  · rw [kv_lo]
    exact mul_comm _ _

/-- The scores are real. -/
theorem score_real : ∃ s : Fin 2304 → ℝ, ∀ l, score (q128 Q b g j t) (kv KC KN b g) l = (s l : EReal) := by
  choose q hq using fun e => T.query b g j t e
  choose k hk using fun l e => k_real T b g l e
  refine ⟨fun l => ∑ e, k l e * q e, fun l => ?_⟩
  rw [score_eq T, ← coe_sum]
  unfold scores
  refine Finset.sum_congr rfl fun e _ => ?_
  rw [hq, hk, EReal.coe_mul]

/-- A head's result at one of its 64 lanes is the reference's. -/
theorem head_lo (e : Fin 64) :
    attend (q128 Q b g j t) (kv KC KN b g) (fun l => kv VC VN b g l ⟨e.val, by omega⟩)
      = ∑ l : Fin 2304, Cert.AttnRefIdeal.At.kv VC VN b g l e
          * soft (scores (qr Q b g j t) (Cert.AttnRefIdeal.At.kv KC KN b g)) l := by
  obtain ⟨s, hs⟩ := score_real T b g j t
  rw [attend_soft _ _ _ s hs, funext (score_eq T b g j t)]
  simp only [kv_lo]

/-- Past its 64 lanes a head's result is zero. -/
theorem head_hi (x : Fin 128) (hx : 64 ≤ x.val) :
    attend (q128 Q b g j t) (kv KC KN b g) (fun l => kv VC VN b g l x) = 0 := by
  obtain ⟨s, hs⟩ := score_real T b g j t
  exact attend_zero _ _ _ s hs fun l => v_hi VC T b g l x hx

/-- The kernel's result at lane `e` of head `4 g + j` is the reference's. -/
theorem out_eq (e : Fin 64) (p : Fin 4) (d : Fin 128) (hp : p.val = (4 * g.val + j.val) / 2)
    (hd : d.val = 64 * (j.val % 2) + e.val) :
    pairOut Q KC KN VC VN ⟨2048 * b.val + t.val, by omega⟩ p d
      = ∑ l : Fin 2304, Cert.AttnRefIdeal.At.kv VC VN b g l e
          * soft (scores (qr Q b g j t) (Cert.AttnRefIdeal.At.kv KC KN b g)) l := by
  have hb : ∀ w, (⟨(2048 * b.val + t.val) / 2048, w⟩ : Fin 8) = b := fun w =>
    Fin.ext (by show (2048 * b.val + t.val) / 2048 = b.val; omega)
  have hg : ∀ w, (⟨p.val / 2, w⟩ : Fin 2) = g := fun w => Fin.ext (by show p.val / 2 = g.val; omega)
  refine Eq.trans ?_ (head_lo VC T b g j t e)
  unfold pairOut
  simp only [hb, hg]
  by_cases hj : j.val % 2 = 0
  · refine Eq.trans (congrArg₂ (fun a b : EReal => a + b) (attend_congr (fun x => ?_) (fun l x => rfl) fun l => ?_)
      (Eq.trans (attend_congr (fun x => ?_) (fun l x => rfl) fun l => rfl)
        (head_hi VC T b g ⟨j.val + 1, by omega⟩ t (rot d) ?_))) (add_zero _)
    · unfold q128
      blk_ext []
    · exact congrArg (kv VC VN b g l) (Fin.ext (by show d.val = e.val; omega))
    · unfold q128
      blk_ext []
    · show 64 ≤ (d.val + 128 - 64) % 128
      omega
  · refine Eq.trans (congrArg₂ (fun a b : EReal => a + b)
      (Eq.trans (attend_congr (fun x => ?_) (fun l x => rfl) fun l => rfl)
        (head_hi VC T b g ⟨j.val - 1, by omega⟩ t d ?_))
      (attend_congr (fun x => ?_) (fun l x => rfl) fun l => ?_)) (zero_add _)
    · unfold q128
      blk_ext []
    · omega
    · unfold q128
      blk_ext []
    · exact congrArg (kv VC VN b g l) (Fin.ext (by show (d.val + 128 - 64) % 128 = e.val; omega))

end

/-- An index of the result is a position of a batch and a lane of a head. -/
theorem split (i : S16384x512.Idx) : ∃ (b : Fin 8) (t : Fin 2048) (g : Fin 2) (j : Fin 4) (e : Fin 64),
    i = ix2 ⟨2048 * b.val + t.val, by omega⟩ ⟨64 * (4 * g.val + j.val) + e.val, by omega⟩ := by
  obtain ⟨n, c, rfl⟩ : ∃ (n : Fin 16384) (c : Fin 512), i = ix2 n c := ⟨i 0, i 1, eq_ix2 i⟩
  refine ⟨⟨n.val / 2048, by omega⟩, ⟨n.val % 2048, by omega⟩, ⟨c.val / 256, by omega⟩, ⟨c.val / 64 % 4, by omega⟩,
    ⟨c.val % 64, by omega⟩, ?_⟩
  exact congrArg₂ ix2 (Fin.ext (by show n.val = 2048 * (n.val / 2048) + n.val % 2048; omega))
    (Fin.ext (by show c.val = 64 * (4 * (c.val / 256) + c.val / 64 % 4) + c.val % 64; omega))

/-- The call's result array is the reference's. -/
theorem arr_eq (Q : FVec Ideal S16384x1024 .bf16) (KN VN : FVec Ideal S16384x256 .bf16)
    (KC VC : FVec Ideal S8x1x256x2x64 .f32) (h : Cert.Pre_heads_tame.fn Q KN VN KC VC = fun _ => 1#1) (i : S16384x512.Idx) :
    pairOut Q KC KN VC VN (i 0) ⟨(i 1).val / 128, by have := (i 1).isLt; change _ < 512 at this; omega⟩
        ⟨(i 1).val % 128, Nat.mod_lt _ (by decide)⟩
      = Cert.AttnRefIdeal.Read.val_main_v29 (F := Ideal) Q KN VN KC VC i := by
  obtain ⟨b, t, g, j, e, rfl⟩ := split i
  refine Eq.trans ?_ (Cert.AttnRefIdeal.At.v29_at Q KN VN KC VC b g j t e).symm
  exact out_eq VC (tame_of_pre Q KN VN KC VC h) b g j t e _ _
    (by show (64 * (4 * g.val + j.val) + e.val) / 128 = _; omega)
    (by show (64 * (4 * g.val + j.val) + e.val) % 128 = _; omega)

end Cert.AttnIdeal.Equation
-- ==== Proof.Ctx.Run.lean ====
module

public import proofs.«01_k».proof.Proof.Gen.CtxIdeal.Frame

/-! The run of the modulation and the input projection: it ends with the six result arrays at what the projection's
pipeline leaves in them, every argument as it was and every semaphore at zero. -/

@[expose] public section

set_option maxRecDepth 16384

noncomputable section

namespace Cert.CtxIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CtxIdeal Cert.CtxIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Both calls run to the end: each result array holds what the projection's pipeline leaves in it, and each argument
what it held at the start. -/
theorem run : θ_run defs (onTc (τ := τ) (main (F := F))) ⟨m, fun _ => 0, ρ⟩ (fun r => ∀ c : Dev nD,
      r.2.mem ((c.tc : Thread nD τ).loc main_v39_0) = (dat1 (V13 m ρ) c).arrAt 9 cfg1.N
      ∧ r.2.mem ((c.tc : Thread nD τ).loc main_v39_1) = (dat1 (V13 m ρ) c).arrAt 10 cfg1.N
      ∧ r.2.mem ((c.tc : Thread nD τ).loc main_v39_2) = (dat1 (V13 m ρ) c).arrAt 11 cfg1.N
      ∧ r.2.mem ((c.tc : Thread nD τ).loc main_v39_3) = (dat1 (V13 m ρ) c).arrAt 12 cfg1.N
      ∧ r.2.mem ((c.tc : Thread nD τ).loc main_v39_4) = (dat1 (V13 m ρ) c).arrAt 13 cfg1.N
      ∧ r.2.mem ((c.tc : Thread nD τ).loc main_v39_5) = (dat1 (V13 m ρ) c).arrAt 14 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => fun c =>
      ⟨(h c _ (mem_uc main_v39_0 (by decide))).trans (W14_arr m ρ c 9),
       (h c _ (mem_uc main_v39_1 (by decide))).trans (W14_arr m ρ c 10),
       (h c _ (mem_uc main_v39_2 (by decide))).trans (W14_arr m ρ c 11),
       (h c _ (mem_uc main_v39_3 (by decide))).trans (W14_arr m ρ c 12),
       (h c _ (mem_uc main_v39_4 (by decide))).trans (W14_arr m ρ c 13),
       (h c _ (mem_uc main_v39_5 (by decide))).trans (W14_arr m ρ c 14),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.CtxIdeal.Run
-- ==== Proof.Ctx.Host.lean ====
module

public import proofs.«01_k».proof.Proof.Gen.CtxIdeal.Frame
public import Idealize.ShloMosaic.Lib.Pointwise
public import Idealize.ShloMosaic.Lib.Claim
public import Idealize.ShloMosaic.Lib.Pipeline.ValueKit
public import Idealize.ShloMosaic.Lib.Routing.OpsSet

/-! What the two calls find in the arrays they read: the conditioning rows, the weights split by heads and padded with
zero lanes, the gains. -/

@[expose] public section

set_option maxRecDepth 16384

noncomputable section

namespace Cert.CtxIdeal.Host

open Idealize.ShloMosaic Idealize.ShloMosaic.TcCoe Idealize.SL.Sem
open Cert.CtxIdeal Cert.CtxIdeal.Gen

variable (m : (ℓ : Loc nD τ sig) → Buf (Elt Ideal) ℓ) (ρ : Dev nD → PrngReg)

/-- The modulation weights the first call reads. -/
theorem w_ada (c : Dev nD) (k : Fin 1024) (j : Fin 6144) :
    V1 m ρ c main_v0 (ix2 k j) = m ((c : Thread nD τ).loc main_arg2) (ix3 0 k j) := by
  show StableHlo.after hostOps0 (W0 m ρ c) main_v0 (ix2 k j) = _
  entry_read
  pointwise

theorem b_ada (c : Dev nD) (j : Fin 6144) :
    V1 m ρ c main_v8 (ix2 0 j) = m ((c : Thread nD τ).loc main_arg3) (ix2 0 j) := by
  show StableHlo.after hostOps0 (W0 m ρ c) main_v8 (ix2 0 j) = _
  entry_read
  pointwise

/-- The first of the conditioning rows is the context's. -/
theorem cc0 (c : Dev nD) (k : Fin 1024) :
    V1 m ρ c main_v7 (ix2 0 k) = m ((c : Thread nD τ).loc main_arg1) (ix1 k) := by
  show StableHlo.after hostOps0 (W0 m ρ c) main_v7 (ix2 0 k) = _
  entry_read
  refine (Routing.scatter_set_miss _ _ _ _ _ ?_).trans (Routing.scatter_set_hit _ _ _ _ _ _ ?_ (ix1 k) ?_)
  · intro u h
    have h0 := (Routing.resultIdx?_eq_some _ _ _ _).1 h 0
    have hs : ScatterDims.start scatter_S16x1024_S1_S8x1024_01_n_0_0 u
      (broadcastInDim S1 ![] bcast_S_S1 (constantI S_ 32 1#32)) 0 = 1 := rfl
    rw [hs] at h0
    change (1 : Int) + ((ScatterDims.window scatter_S16x1024_S1_S8x1024_01_n_0_0 u 0 : ℕ) : Int) = 0 at h0
    omega
  · intro u h
    have h0 := (Routing.resultIdx?_eq_some _ _ _ _).1 h 1
    have hs : ScatterDims.start scatter_S16x1024_S1_S1024_0_0_0_0 u
      (broadcastInDim S1 ![] bcast_S_S1 (constantI S_ 32 0#32)) 1 = 0 := rfl
    have hw : ScatterDims.window scatter_S16x1024_S1_S1024_0_0_0_0 u 1 = (u 0).val := rfl
    rw [hs, hw] at h0
    change 0 + ((u 0).val : Int) = (k.val : Int) at h0
    have hu : u = ix1 k := by
      rw [eq_ix1 u]
      exact congrArg ix1 (Fin.ext (by omega))
    rw [hu]
  · refine (Routing.resultIdx?_eq_some _ _ _ _).2 fun a => ?_
    match a with
    | ⟨0, _⟩ => rfl
    | ⟨1, _⟩ => exact zero_add (k.val : Int)

/-- The projection's weights, from the matrix of all of them. -/
theorem w_in (c : Dev nD) (k : Fin 1024) (j : Fin 2688) :
    W2 m ρ c main_v2 (ix2 k j) = m ((c : Thread nD τ).loc main_arg6) (ix3 0 k j) := by
  rw [W2_of m ρ c main_v2 (by decide)]
  show StableHlo.after hostOps0 (W0 m ρ c) main_v2 (ix2 k j) = _
  entry_read
  pointwise

/-- The prompt's rows. -/
theorem x_rows (c : Dev nD) (n : Fin 4096) (k : Fin 1024) : V13 m ρ c main_v11 (ix2 n k)
    = m ((c : Thread nD τ).loc main_arg4) (ix3 ⟨n.val / 256, by omega⟩ ⟨n.val % 256, by omega⟩ k) := by
  show W13 m ρ c main_v11 (ix2 n k) = _
  rw [W13_of m ρ c main_v11 (by decide), W12_of m ρ c main_v11 (by decide), W11_of m ρ c main_v11 (by decide),
    W10_of m ρ c main_v11 (by decide), W9_of m ρ c main_v11 (by decide), W8_of m ρ c main_v11 (by decide),
    W7_of m ρ c main_v11 (by decide), W6_of m ρ c main_v11 (by decide), W5_of m ρ c main_v11 (by decide),
    W4_of m ρ c main_v11 (by decide)]
  show StableHlo.after hostOps1 (W2 m ρ c) main_v11 (ix2 n k) = _
  entry_read
  rw [W2_args m ρ c main_arg4 (by decide)]
  pointwise

/-- The gain of the norm before the projection. -/
theorem g_mix (c : Dev nD) (k : Fin 1024) : V13 m ρ c main_v13 (ix2 0 k) = m ((c : Thread nD τ).loc main_arg5) (ix2 0 k) := by
  show W13 m ρ c main_v13 (ix2 0 k) = _
  rw [W13_of m ρ c main_v13 (by decide), W12_of m ρ c main_v13 (by decide), W11_of m ρ c main_v13 (by decide),
    W10_of m ρ c main_v13 (by decide), W9_of m ρ c main_v13 (by decide), W8_of m ρ c main_v13 (by decide),
    W7_of m ρ c main_v13 (by decide), W6_of m ρ c main_v13 (by decide), W5_of m ρ c main_v13 (by decide),
    W4_of m ρ c main_v13 (by decide)]
  show StableHlo.after hostOps1 (W2 m ρ c) main_v13 (ix2 0 k) = _
  entry_read
  rw [W2_args m ρ c main_arg5 (by decide)]
  pointwise

/-- The modulation rows the projection reads are the first call's result. -/
theorem mod3 (c : Dev nD) (r : Fin 16) (j : Fin 6144) : V13 m ρ c main_v10 (ix3 r 0 j)
    = (dat0 (V1 m ρ) c).arrAt 3 cfg0.N (ix2 r j) := by
  show W13 m ρ c main_v10 (ix3 r 0 j) = _
  rw [W13_of m ρ c main_v10 (by decide), W12_of m ρ c main_v10 (by decide), W11_of m ρ c main_v10 (by decide),
    W10_of m ρ c main_v10 (by decide), W9_of m ρ c main_v10 (by decide), W8_of m ρ c main_v10 (by decide),
    W7_of m ρ c main_v10 (by decide), W6_of m ρ c main_v10 (by decide), W5_of m ρ c main_v10 (by decide),
    W4_of m ρ c main_v10 (by decide)]
  show StableHlo.after hostOps1 (W2 m ρ c) main_v10 (ix3 r 0 j) = _
  entry_read
  refine Eq.trans (b := W2 m ρ c main_v9 (ix2 r j)) ?_ (congrFun (W2_arr m ρ c 3) _)
  pointwise

/-- A head's weights: lane `e` of its 128 holds the weight of its feature `e`, or zero past the 64 features. `o` is the
first of the matrix's columns taken. -/
def lane (W : FVec Ideal S1x1024x2688 .f32) {H : ℕ} (o : ℕ) (ho : o + 64 * H ≤ 2688) (k : Fin 1024) (h : Fin H)
    (e : Fin 128) : EReal :=
  if he : e.val < 64 then W (ix3 0 k ⟨o + (64 * h.val + e.val), by omega⟩) else 0

/-- The zero the padding fills with. -/
theorem zero_word : FloatOps.sitofp (F := Ideal) FTy.f32 (0#32) = (0 : EReal) := by
  show (((0#32 : BitVec 32).toInt : ℝ) : EReal) = 0
  simp

/-- A padded weight read through the flattening of the heads. -/
theorem lane_eq (W : FVec Ideal S1x1024x2688 .f32) {H : ℕ} (o : ℕ) (ho : o + 64 * H ≤ 2688) (k : Fin 1024) (h : Fin H) (e : Fin 128)
    (q r : ℕ) (hq : q = h.val) (hr : r = e.val) :
    (if h1 : q < H ∧ r < 64 then W (ix3 0 k ⟨o + (q * 64 + r), by omega⟩) else FloatOps.sitofp (F := Ideal) FTy.f32 (0#32))
      = lane W o ho k h e := by
  subst hq hr
  unfold lane
  by_cases he : e.val < 64
  · rw [dif_pos ⟨h.isLt, he⟩, dif_pos he]
    exact congrArg (fun j => W (ix3 0 k j)) (Fin.ext (by show o + _ = o + _; omega))
  · rw [dif_neg fun q => he q.2, dif_neg he]
    exact zero_word

/-- The query weights. -/
theorem w_q (c : Dev nD) (k : Fin 1024) (h : Fin 8) (e : Fin 128) :
    V13 m ρ c main_v18 (ix2 k ⟨128 * h.val + e.val, by omega⟩)
      = lane (m ((c : Thread nD τ).loc main_arg6)) 0 (by omega) k h e := by
  show W13 m ρ c main_v18 _ = _
  rw [W13_of m ρ c main_v18 (by decide), W12_of m ρ c main_v18 (by decide), W11_of m ρ c main_v18 (by decide),
    W10_of m ρ c main_v18 (by decide), W9_of m ρ c main_v18 (by decide), W8_of m ρ c main_v18 (by decide),
    W7_of m ρ c main_v18 (by decide), W6_of m ρ c main_v18 (by decide)]
  show StableHlo.after hostOps1_2 (W4 m ρ c) main_v18 _ = _
  entry_read
  have h2 : W2 m ρ c (Proc.devRef .tc main_v2) = fun i => m ((c : Thread nD τ).loc main_arg6) (ix3 0 (i 0) (i 1)) :=
    funext fun i => (congrArg _ (eq_ix2 i)).trans (w_in m ρ c (i 0) (i 1))
  rw [h2]
  simp only [StableHlo.TRef.toBuf, StableHlo.TRef.ofBuf, cast_cast, cast_eq]
  pointwise
  have key := lane_eq (m ((c : Thread nD τ).loc main_arg6)) 0 (by omega) k h e ((128 * h.val + e.val) / 128)
    ((128 * h.val + e.val) % 128) (by omega) (by omega)
  simp only [zero_add] at key
  exact key

/-- The key weights. -/
theorem w_k (c : Dev nD) (k : Fin 1024) (h : Fin 2) (e : Fin 128) :
    V13 m ρ c main_v23 (ix2 k ⟨128 * h.val + e.val, by omega⟩)
      = lane (m ((c : Thread nD τ).loc main_arg6)) 512 (by omega) k h e := by
  show W13 m ρ c main_v23 _ = _
  rw [W13_of m ρ c main_v23 (by decide), W12_of m ρ c main_v23 (by decide), W11_of m ρ c main_v23 (by decide),
    W10_of m ρ c main_v23 (by decide), W9_of m ρ c main_v23 (by decide), W8_of m ρ c main_v23 (by decide)]
  show StableHlo.after hostOps1_4 (W6 m ρ c) main_v23 _ = _
  entry_read
  have h2 : W2 m ρ c (Proc.devRef .tc main_v2) = fun i => m ((c : Thread nD τ).loc main_arg6) (ix3 0 (i 0) (i 1)) :=
    funext fun i => (congrArg _ (eq_ix2 i)).trans (w_in m ρ c (i 0) (i 1))
  rw [h2]
  simp only [StableHlo.TRef.toBuf, StableHlo.TRef.ofBuf, cast_cast, cast_eq]
  pointwise
  exact lane_eq (m ((c : Thread nD τ).loc main_arg6)) 512 (by omega) k h e _ _ (by omega) (by omega)

/-- The value weights. -/
theorem w_v (c : Dev nD) (k : Fin 1024) (h : Fin 2) (e : Fin 128) :
    V13 m ρ c main_v28 (ix2 k ⟨128 * h.val + e.val, by omega⟩)
      = lane (m ((c : Thread nD τ).loc main_arg6)) 640 (by omega) k h e := by
  show W13 m ρ c main_v28 _ = _
  rw [W13_of m ρ c main_v28 (by decide), W12_of m ρ c main_v28 (by decide), W11_of m ρ c main_v28 (by decide),
    W10_of m ρ c main_v28 (by decide)]
  show StableHlo.after hostOps1_6 (W8 m ρ c) main_v28 _ = _
  entry_read
  have h2 : W2 m ρ c (Proc.devRef .tc main_v2) = fun i => m ((c : Thread nD τ).loc main_arg6) (ix3 0 (i 0) (i 1)) :=
    funext fun i => (congrArg _ (eq_ix2 i)).trans (w_in m ρ c (i 0) (i 1))
  rw [h2]
  simp only [StableHlo.TRef.toBuf, StableHlo.TRef.ofBuf, cast_cast, cast_eq]
  pointwise
  exact lane_eq (m ((c : Thread nD τ).loc main_arg6)) 640 (by omega) k h e _ _ (by omega) (by omega)

/-- The weights past the keys and values. -/
theorem w_rest (c : Dev nD) (k : Fin 1024) (j : Fin 1920) :
    V13 m ρ c main_v30 (ix2 k j) = m ((c : Thread nD τ).loc main_arg6) (ix3 0 k ⟨768 + j.val, by omega⟩) := by
  show W13 m ρ c main_v30 _ = _
  rw [W13_of m ρ c main_v30 (by decide), W12_of m ρ c main_v30 (by decide), W11_of m ρ c main_v30 (by decide),
    W10_of m ρ c main_v30 (by decide)]
  show StableHlo.after hostOps1_6 (W8 m ρ c) main_v30 _ = _
  entry_read
  refine Eq.trans (b := W8 m ρ c main_v2 (ix2 k ⟨768 + j.val, by omega⟩)) ?_ ?_
  · pointwise
    exact (congrFun ((W8_of m ρ c main_v2 (by decide)).trans ((W7_of m ρ c main_v2 (by decide)).trans
      ((W6_of m ρ c main_v2 (by decide)).trans ((W5_of m ρ c main_v2 (by decide)).trans
      ((W4_of m ρ c main_v2 (by decide)).trans (W3_of m ρ c main_v2 (by decide))))))) _).symm
  · rw [W8_of m ρ c main_v2 (by decide), W7_of m ρ c main_v2 (by decide), W6_of m ρ c main_v2 (by decide),
      W5_of m ρ c main_v2 (by decide), W4_of m ρ c main_v2 (by decide), W3_of m ρ c main_v2 (by decide)]
    exact w_in m ρ c k _

/-- A gain padded with zero lanes. -/
def gain (g : FVec Ideal S1x64 .f32) (e : Fin 128) : EReal := if he : e.val < 64 then g (ix2 0 ⟨e.val, he⟩) else 0

/-- A gain times the scores' factor. -/
def scaled (g : FVec Ideal S1x64 .f32) : FVec Ideal S1x64 .f32 := fun i => g i * Ideal.ofBits .f32 0x3E000000#32

/-- The query gain, times the scores' factor. -/
theorem g_q (c : Dev nD) (e : Fin 128) : V13 m ρ c main_v35 (ix2 0 e)
    = gain (scaled (m ((c : Thread nD τ).loc main_arg7))) e := by
  show W13 m ρ c main_v35 _ = _
  rw [W13_of m ρ c main_v35 (by decide), W12_of m ρ c main_v35 (by decide)]
  show StableHlo.after hostOps1_8 (W10 m ρ c) main_v35 _ = _
  entry_read
  have h2 : W2 m ρ c (Proc.devRef .tc main_arg7) = m ((c : Thread nD τ).loc main_arg7) := W2_args m ρ c main_arg7 (by decide)
  rw [h2]
  simp only [StableHlo.TRef.toBuf, StableHlo.TRef.ofBuf, cast_cast, cast_eq]
  pointwise [gain]
  by_cases he : e.val < 64
  · rw [dif_pos he, dif_pos he]
    rfl
  · rw [dif_neg he, dif_neg he]
    exact zero_word

/-- The key gain. -/
theorem g_k (c : Dev nD) (e : Fin 128) : V13 m ρ c main_v38 (ix2 0 e)
    = gain (m ((c : Thread nD τ).loc main_arg8)) e := by
  show StableHlo.after hostOps1_10 (W12 m ρ c) main_v38 _ = _
  entry_read
  have h2 : W2 m ρ c (Proc.devRef .tc main_arg8) = m ((c : Thread nD τ).loc main_arg8) := W2_args m ρ c main_arg8 (by decide)
  rw [h2]
  simp only [StableHlo.TRef.toBuf, StableHlo.TRef.ofBuf, cast_cast, cast_eq]
  pointwise [gain]
  by_cases he : e.val < 64
  · rw [dif_pos he, dif_pos he]
  · rw [dif_neg he, dif_neg he]
    exact zero_word

end Cert.CtxIdeal.Host
-- ==== Proof.Ctx.Block.lean ====
module

public import proofs.«01_k».proof.Proof.Gen.CtxIdeal.Frame
public import Idealize.ShloMosaic.Lib.Pointwise
public import Idealize.ShloMosaic.Lib.Pipeline.ValueKit

/-! What one block of the context program computes: a tile of the modulation, and one tile of rows of the normed and
modulated prompt with its key, value and recurrence projections. -/

@[expose] public section

set_option maxRecDepth 16384

noncomputable section

namespace Cert.CtxIdeal.Block

open Idealize.ShloMosaic Idealize.ShloMosaic.TcCoe Idealize.SL.Sem
open Cert.CtxIdeal Cert.CtxIdeal.Gen

/-- The sigmoid-weighted unit. -/
def act (x : EReal) : EReal := x * Ideal.logistic x

/-- One modulation entry as the kernel adds it up: the leading product, the two corrections of the split operands, the
bias. -/
def modSplit (s w : Fin 1024 → EReal) (b : EReal) : EReal :=
  ∑ k, act (s k) * w k + (∑ k, (act (s k) - act (s k)) * w k + ∑ k, act (s k) * (w k - w k)) + b

/-- A row's root-mean-square norm, gain, scale and shift. -/
def hrow (x g sc sh : Fin 1024 → EReal) (k : Fin 1024) : EReal :=
  x k * Ideal.rsqrt (Ideal.div (∑ i, x i * x i) (Ideal.ofBits .f32 1149239296#32) + Ideal.ofBits .f32 897988541#32) * g k
    * (1 + sc k) + sh k

/-- A head's norm over its 128 lanes, the upper 64 of which hold zeros. -/
def lanes (z g : Fin 128 → EReal) (e : Fin 128) : EReal :=
  z e * Ideal.rsqrt ((∑ i, z i * z i) * Ideal.ofBits .f32 1015021568#32 + Ideal.ofBits .f32 897988541#32) * g e

/-- The lane half a head further round. -/
def rot (l : Fin 128) : Fin 128 := ⟨(l.val + 128 - 64) % 128, Nat.mod_lt _ (by decide)⟩

theorem mod_at (s : FVec Ideal S16x1024 .f32) (w : FVec Ideal S1024x512 .f32) (b : FVec Ideal S1x512 .f32) (r : Fin 16)
    (j : Fin 512) : k0_pay1 (F := Ideal) s w b (ix2 r j)
      = modSplit (fun k => s (ix2 r k)) (fun k => w (ix2 k j)) (b (ix2 0 j)) := by
  pointwise [k0_pay1]
  rfl

theorem pay7_at (x : FVec Ideal S256x1024 .f32) (mo : FVec Ideal S1x1x6144 .f32) (g : FVec Ideal S1x1024 .f32)
    (r : Fin 256) (k : Fin 1024) : k1_pay7 (F := Ideal) x mo g (ix2 r k)
      = hrow (fun k => x (ix2 r k)) (fun k => g (ix2 0 k)) (fun k => mo (ix3 0 0 ⟨1024 + k.val, by omega⟩))
          (fun k => mo (ix3 0 0 ⟨k.val, by omega⟩)) k := by
  pointwise [k1_pay7]
  rfl

theorem pay8_at (x : FVec Ideal S256x1024 .f32) (mo : FVec Ideal S1x1x6144 .f32) (g : FVec Ideal S1x1024 .f32)
    (w : FVec Ideal S1024x1920 .bf16) (r : Fin 256) (j : Fin 1920) : k1_pay8 (F := Ideal) x mo g w (ix2 r j)
      = ∑ k, k1_pay7 (F := Ideal) x mo g (ix2 r k) * w (ix2 k j) := by
  pointwise [k1_pay8]

theorem pay11_at (h : FVec Ideal S256x1024 .bf16) (w : FVec Ideal S1024x256 .bf16) (r : Fin 256) (j : Fin 256) :
    k1_pay11 (F := Ideal) h (k1_pay10 w) (constant S256x256 .f32 0x00000000#32) (ix2 r j)
      = ∑ k : Fin 1024, h (ix2 r k) * w (ix2 k j) := by
  pointwise [k1_pay11, k1_pay10]

theorem pay12_at (h : FVec Ideal S256x1024 .bf16) (w : FVec Ideal S1024x256 .bf16) (r : Fin 256) (j : Fin 256) :
    k1_pay12 (F := Ideal) h w (ix2 r j) = ∑ k : Fin 1024, h (ix2 r k) * w (ix2 k j) := by
  pointwise [k1_pay12]

theorem pay25_at (z : FVec Ideal S256x256 .f32) (g : FVec Ideal S1x128 .f32) (r : Fin 256) (l : Fin 128) :
    k1_pay25 (F := Ideal) z g (ix2 r l)
      = lanes (fun l => z (ix2 r ⟨l.val, by omega⟩)) (fun l => g (ix2 0 l)) l := by
  pointwise [k1_pay25]
  rfl

theorem pay1_at (z : FVec Ideal S256x256 .f32) (g : FVec Ideal S1x128 .f32) (r : Fin 256) (l : Fin 128) :
    k1_pay1 (F := Ideal) (k1_pay26 (F := Ideal) z) (k1_pay27 (F := Ideal) g) (k1_pay28 (F := Ideal) z)
        (Scalar.ofBits .f32 0x358637BD#32) (ix2 r l)
      = lanes (fun l => z (ix2 r ⟨128 + l.val, by omega⟩)) (fun l => g (ix2 0 l)) l := by
  pointwise [k1_pay1, k1_pay26, k1_pay27, k1_pay28]
  rfl

/-- The stored keys: the two heads' 64 lanes side by side. -/
theorem keys_at (z : FVec Ideal S256x256 .f32) (g : FVec Ideal S1x128 .f32) (r : Fin 256) (l : Fin 128) :
    k1_pay2 (F := Ideal) (k1_pay25 (F := Ideal) z g) (k1_pay26 (F := Ideal) z) (k1_pay27 (F := Ideal) g)
        (k1_pay28 (F := Ideal) z) (Scalar.ofBits .f32 0x358637BD#32) (ix2 r l)
      = lanes (fun l => z (ix2 r ⟨l.val, by omega⟩)) (fun l => g (ix2 0 l)) l
        + lanes (fun l => z (ix2 r ⟨128 + l.val, by omega⟩)) (fun l => g (ix2 0 l)) (rot l) := by
  rw [← pay25_at, ← pay1_at]
  generalize k1_pay25 (F := Ideal) z g = a
  pointwise [k1_pay2]
  rfl

theorem vals_at (z : FVec Ideal S256x256 .f32) (r : Fin 256) (l : Fin 128) : k1_pay3 (F := Ideal) z (ix2 r l)
    = z (ix2 r ⟨l.val, by omega⟩) + z (ix2 r ⟨128 + (rot l).val, by omega⟩) := by
  pointwise [k1_pay3]
  rfl

end Cert.CtxIdeal.Block
-- ==== Proof.Ctx.Array.lean ====
module

public import proofs.«01_k».proof.Proof.Ctx.Block

/-! What the two calls' result arrays hold, over whatever arrays they are given: the modulation of every conditioning
row; the keys, values and recurrence inputs of every row. -/

@[expose] public section

set_option maxRecDepth 16384

noncomputable section

namespace Cert.CtxIdeal.Array

open Idealize.ShloMosaic Idealize.ShloMosaic.TcCoe Idealize.SL.Sem
open Cert.CtxIdeal Cert.CtxIdeal.Gen Cert.CtxIdeal.Block

variable (V : (c : Dev nD) → (b : Ref sig .tc) → Buf (Elt Ideal) ((c : Thread nD τ).loc b))

/-- The modulation's blocks at grid point `t`: the weights' columns `t`. -/
theorem idx0 : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The projection's blocks at grid point `t`: the rows `t`, and all of everything else. -/
theorem idx1 : ∀ t : Fin cfg1.N, win1_0.index t = ![t.val, 0] ∧ win1_1.index t = ![0, 0, 0] ∧ win1_2.index t = ![0, 0]
    ∧ win1_4.index t = ![0, 0] ∧ win1_5.index t = ![0, 0] ∧ win1_6.index t = ![0, 0] ∧ win1_8.index t = ![0, 0]
    ∧ win1_10.index t = ![t.val, 0] ∧ win1_11.index t = ![t.val, 0] ∧ win1_14.index t = ![t.val, 0]
    ∧ win1_3.index t = ![0, 0] ∧ win1_7.index t = ![0, 0] ∧ win1_9.index t = ![t.val, 0] ∧ win1_12.index t = ![t.val, 0]
    ∧ win1_13.index t = ![t.val, 0] :=
  (by decide +kernel : ∀ t : Fin grid1.N, _)

abbrev bS (c : Dev nD) (t : Fin cfg0.N) : FVec Ideal S16x1024 .f32 := iblk0 V c 0 t
abbrev bA (c : Dev nD) (t : Fin cfg0.N) : FVec Ideal S1024x512 .f32 := iblk0 V c 1 t
abbrev bB (c : Dev nD) (t : Fin cfg0.N) : FVec Ideal S1x512 .f32 := iblk0 V c 2 t

abbrev bX (c : Dev nD) (t : Fin cfg1.N) : FVec Ideal S256x1024 .f32 := iblk1 V c 0 t
abbrev bM (c : Dev nD) (t : Fin cfg1.N) : FVec Ideal S1x1x6144 .f32 := iblk1 V c 1 t
abbrev bG (c : Dev nD) (t : Fin cfg1.N) : FVec Ideal S1x1024 .f32 := iblk1 V c 2 t
abbrev bK (c : Dev nD) (t : Fin cfg1.N) : FVec Ideal S1024x256 .bf16 := iblk1 V c 4 t
abbrev bV (c : Dev nD) (t : Fin cfg1.N) : FVec Ideal S1024x256 .bf16 := iblk1 V c 5 t
abbrev bR (c : Dev nD) (t : Fin cfg1.N) : FVec Ideal S1024x1920 .bf16 := iblk1 V c 6 t
abbrev bN (c : Dev nD) (t : Fin cfg1.N) : FVec Ideal S1x128 .f32 := iblk1 V c 8 t

/-- The modulation of all conditioning rows. -/
def modArr (c : Dev nD) : FVec Ideal S16x6144 .f32 := fun i =>
  modSplit (fun k => V c main_v7 (ix2 (i 0) k)) (fun k => V c main_v0 (ix2 k (i 1))) (V c main_v8 (ix2 0 (i 1)))

theorem mod_final (c : Dev nD) : (dat0 V c).arrAt 3 cfg0.N = modArr V c := by
  refine (dat0 V c).arrAt_eq_of_covers 3 _ (by decide +kernel) fun t hf y => ?_
  blk_simp
  rw [after0_3]
  frame_out
  have hN : t.val < 12 := lt_of_lt_of_eq t.isLt (show cfg0.N = 12 from N_0)
  idx_vars y
  show k0_pay1 (F := Ideal) (bS V c t) (bA V c t) (bB V c t) (ix2 y0 y1) = _
  rw [mod_at]
  have h0 : ∀ k : Fin 1024, bS V c t (ix2 y0 k) = V c main_v7 (ix2 y0 k) := fun k => by blk_ext [bS, iblk0, idx0 t]
  have h1 : ∀ k : Fin 1024, bA V c t (ix2 k y1) = V c main_v0 (ix2 k ⟨512 * t.val + y1.val, by omega⟩) := fun k => by
    blk_ext [bA, iblk0, idx0 t]
  have h2 : bB V c t (ix2 0 y1) = V c main_v8 (ix2 0 ⟨512 * t.val + y1.val, by omega⟩) := by blk_ext [bB, iblk0, idx0 t]
  simp only [h0, h1, h2]
  show modArr V c (ix2 y0 ⟨512 * t.val + y1.val, by omega⟩) = _
  blk_ext [idx0 t]

/-- One row of the normed and modulated prompt. -/
def hOf (c : Dev nD) (n : Fin 4096) (k : Fin 1024) : EReal :=
  hrow (fun k => V c main_v11 (ix2 n k)) (fun k => V c main_v13 (ix2 0 k))
    (fun k => V c main_v10 (ix3 0 0 ⟨1024 + k.val, by omega⟩)) (fun k => V c main_v10 (ix3 0 0 ⟨k.val, by omega⟩)) k

theorem h_eq (c : Dev nD) (t : Fin cfg1.N) (r : Fin 256) (k : Fin 1024) (n : Fin 4096) (hn : n.val = t.val * 256 + r.val) :
    k1_pay7 (F := Ideal) (bX V c t) (bM V c t) (bG V c t) (ix2 r k) = hOf V c n k := by
  rw [pay7_at]
  have h0 : ∀ k : Fin 1024, bX V c t (ix2 r k) = V c main_v11 (ix2 n k) := fun k => by blk_ext [bX, iblk1, idx1 t]
  have h1 : ∀ j : Fin 6144, bM V c t (ix3 0 0 j) = V c main_v10 (ix3 0 0 j) := fun j => by blk_ext [bM, iblk1, idx1 t]
  have h2 : ∀ k : Fin 1024, bG V c t (ix2 0 k) = V c main_v13 (ix2 0 k) := fun k => by blk_ext [bG, iblk1, idx1 t]
  simp only [h0, h1, h2]
  rfl

/-- The recurrence inputs. -/
def restArr (c : Dev nD) : FVec Ideal S4096x1920 .f32 := fun i =>
  ∑ k : Fin 1024, hOf V c (i 0) k * V c main_v30 (ix2 k (i 1))

theorem rest_final (c : Dev nD) : (dat1 V c).arrAt 14 cfg1.N = restArr V c := by
  refine (dat1 V c).arrAt_eq_of_covers 14 _ (by decide +kernel) fun t hf y => ?_
  blk_simp
  rw [after1_14]
  frame_out
  have hN : t.val < 16 := lt_of_lt_of_eq t.isLt (show cfg1.N = 16 from N_1)
  idx_vars y
  show k1_pay8 (F := Ideal) (bX V c t) (bM V c t) (bG V c t) (bR V c t) (ix2 y0 y1) = _
  rw [pay8_at]
  have h0 : ∀ k : Fin 1024, bR V c t (ix2 k y1) = V c main_v30 (ix2 k y1) := fun k => by blk_ext [bR, iblk1, idx1 t]
  simp only [h0, h_eq V c t y0 _ ⟨t.val * 256 + y0.val, by omega⟩ rfl]
  show restArr V c (ix2 ⟨t.val * 256 + y0.val, by omega⟩ y1) = _
  blk_ext [idx1 t]

/-- Head `h`'s lane `e` of the key projection, and of the value projection. -/
def zk (c : Dev nD) (n : Fin 4096) (h : Fin 2) (e : Fin 128) : EReal :=
  ∑ k : Fin 1024, hOf V c n k * V c main_v23 (ix2 k ⟨128 * h.val + e.val, by omega⟩)
def zv (c : Dev nD) (n : Fin 4096) (h : Fin 2) (e : Fin 128) : EReal :=
  ∑ k : Fin 1024, hOf V c n k * V c main_v28 (ix2 k ⟨128 * h.val + e.val, by omega⟩)

/-- The values: the two heads' lanes side by side. -/
def valArr (c : Dev nD) : FVec Ideal S4096x128 .f32 := fun i => zv V c (i 0) 0 (i 1) + zv V c (i 0) 1 (rot (i 1))

theorem val_final (c : Dev nD) : (dat1 V c).arrAt 11 cfg1.N = valArr V c := by
  refine (dat1 V c).arrAt_eq_of_covers 11 _ (by decide +kernel) fun t hf y => ?_
  blk_simp
  rw [after1_11]
  unfold_out out1_11
  frame_out
  have hN : t.val < 16 := lt_of_lt_of_eq t.isLt (show cfg1.N = 16 from N_1)
  idx_vars y
  show k1_pay3 (F := Ideal) (k1_pay12 (k1_pay7 (bX V c t) (bM V c t) (bG V c t)) (bV V c t)) (ix2 y0 y1) = _
  rw [vals_at]
  simp only [pay12_at]
  have h0 : ∀ (k : Fin 1024) (j : Fin 256), bV V c t (ix2 k j) = V c main_v28 (ix2 k j) := fun k j => by
    blk_ext [bV, iblk1, idx1 t]
  simp only [h0, h_eq V c t y0 _ ⟨t.val * 256 + y0.val, by omega⟩ rfl]
  refine Eq.trans (b := valArr V c (ix2 ⟨t.val * 256 + y0.val, by omega⟩ y1)) ?_ ?_
  · show _ = zv V c _ 0 y1 + zv V c _ 1 (rot y1)
    unfold zv
    congr 1
    refine Finset.sum_congr rfl fun k _ => ?_
    congr 3
    exact Fin.ext (by show y1.val = 128 * 0 + y1.val; omega)
  · blk_ext [idx1 t]

/-- The keys: the two heads' normed lanes side by side. -/
def keyArr (c : Dev nD) : FVec Ideal S4096x128 .f32 := fun i =>
  lanes (zk V c (i 0) 0) (fun l => V c main_v38 (ix2 0 l)) (i 1)
    + lanes (zk V c (i 0) 1) (fun l => V c main_v38 (ix2 0 l)) (rot (i 1))

theorem key_final (c : Dev nD) : (dat1 V c).arrAt 10 cfg1.N = keyArr V c := by
  refine (dat1 V c).arrAt_eq_of_covers 10 _ (by decide +kernel) fun t hf y => ?_
  blk_simp
  rw [after1_10]
  unfold_out out1_10
  frame_out
  have hN : t.val < 16 := lt_of_lt_of_eq t.isLt (show cfg1.N = 16 from N_1)
  idx_vars y
  have hz : ∀ z : FVec Ideal S256x256 .f32, z = k1_pay11 (k1_pay7 (F := Ideal) (bX V c t) (bM V c t) (bG V c t))
      (k1_pay10 (bK V c t)) (constant S256x256 .f32 0x00000000#32) →
      k1_pay2 (F := Ideal) (k1_pay25 (F := Ideal) z (bN V c t)) (k1_pay26 (F := Ideal) z) (k1_pay27 (F := Ideal) (bN V c t))
        (k1_pay28 (F := Ideal) z) (Scalar.ofBits .f32 0x358637BD#32) (ix2 y0 y1)
        = keyArr V c (ix2 ⟨t.val * 256 + y0.val, by omega⟩ y1) := by
    intro z hz
    rw [keys_at]
    have h0 : ∀ (k : Fin 1024) (j : Fin 256), bK V c t (ix2 k j) = V c main_v23 (ix2 k j) := fun k j => by
      blk_ext [bK, iblk1, idx1 t]
    have h1 : ∀ l : Fin 128, bN V c t (ix2 0 l) = V c main_v38 (ix2 0 l) := fun l => by blk_ext [bN, iblk1, idx1 t]
    have h2 : ∀ j : Fin 256, z (ix2 y0 j) = ∑ k : Fin 1024, hOf V c ⟨t.val * 256 + y0.val, by omega⟩ k * V c main_v23 (ix2 k j) := by
      intro j
      rw [hz, pay11_at]
      simp only [h0, h_eq V c t y0 _ ⟨t.val * 256 + y0.val, by omega⟩ rfl]
    simp only [h1, h2]
    show _ = lanes (zk V c _ 0) _ y1 + lanes (zk V c _ 1) _ (rot y1)
    congr 2
    funext l
    unfold zk
    refine Finset.sum_congr rfl fun k _ => ?_
    congr 3
    exact Fin.ext (by show l.val = 128 * 0 + l.val; omega)
  refine Eq.trans (hz _ rfl) ?_
  blk_ext [idx1 t]

end Cert.CtxIdeal.Array
-- ==== Proof.Ctx.Ref.lean ====
module

public import proofs.«01_k».proof.Proof.Gen.CtxRefIdeal.Read
public import proofs.«01_k».proof.Proof.Ctx.Block

/-! What the context's reference computes: the modulation, the normed and modulated rows, their projection, the keys,
values and recurrence inputs at one row and column. -/

@[expose] public section

set_option maxRecDepth 16384

noncomputable section

namespace Cert.CtxRefIdeal.At

open Idealize.ShloMosaic Idealize.ShloMosaic.TcCoe Idealize.SL.Sem
open Cert.CtxRefIdeal Cert.CtxRefIdeal.Read Cert.CtxIdeal.Block

variable (cc : FVec Ideal S1024 .f32) (A : FVec Ideal S1x1024x6144 .f32) (b : FVec Ideal S1x6144 .f32)
  (X : FVec Ideal S16x256x1024 .f32) (g : FVec Ideal S1x1024 .f32) (W : FVec Ideal S1x1024x2688 .f32)
  (kg : FVec Ideal S1x64 .f32)

/-- The context's modulation. -/
def modv (cc : FVec Ideal S1024 .f32) (A : FVec Ideal S1x1024x6144 .f32) (b : FVec Ideal S1x6144 .f32) (j : Fin 6144) :
    EReal := ∑ k : Fin 1024, act (cc (ix1 k)) * A (ix3 0 k j) + b (ix2 0 j)

theorem v0_at (k : Fin 1024) : val_main_v0 (F := Ideal) cc (ix1 k) = act (cc (ix1 k)) := by
  pointwise [val_main_v0, val_main_call0_v5, val_main_call0_v4, val_main_call0_v3, val_main_call0_v2,
    val_main_call0_v1, val_main_call0_v0, val_main_call0_cst, val_main_call0_cst_0]
  rfl

theorem v4_at (j : Fin 6144) : val_main_v4 (F := Ideal) cc A b (ix1 j) = modv cc A b j := by
  pointwise [val_main_v4, val_main_v3, val_main_v2, val_main_v1]
  simp only [v0_at]
  rfl

/-- A row of the prompt. -/
def row (X : FVec Ideal S16x256x1024 .f32) (p : Fin 16) (r : Fin 256) (k : Fin 1024) : EReal := X (ix3 p r k)

theorem v14_at (p : Fin 16) (r : Fin 256) : val_main_v14 (F := Ideal) X (ix3 p r 0)
    = Ideal.rsqrt (Ideal.div (∑ i, row X p r i * row X p r i) (Ideal.ofBits .f32 1149239296#32) + Ideal.ofBits .f32 897988541#32) := by
  pointwise [val_main_v14, val_main_v13, val_main_v12, val_main_v11, val_main_v10, val_main_v9, val_main_v8, val_main_v7,
    val_main_cst, val_main_cst_0, val_main_cst_1]
  rfl

/-- One row of the normed and modulated prompt. -/
theorem v28_at (p : Fin 16) (r : Fin 256) (k : Fin 1024) : val_main_v28 (F := Ideal) cc A b X g (ix3 p r k)
    = hrow (row X p r) (fun k => g (ix2 0 k)) (fun k => modv cc A b ⟨1024 + k.val, by omega⟩)
        (fun k => modv cc A b ⟨k.val, by omega⟩) k := by
  pointwise [val_main_v28, val_main_v27, val_main_v26, val_main_v25, val_main_v24, val_main_v23, val_main_v22,
    val_main_v21, val_main_v20, val_main_v19, val_main_v18, val_main_v17, val_main_v16, val_main_v15, val_main_v6, val_main_v5,
    val_main_cst_2]
  rw [v14_at, v4_at, v4_at]
  rfl

theorem v30_at (p : Fin 16) (r : Fin 256) (j : Fin 2688) : val_main_v30 (F := Ideal) cc A b X g W (ix3 p r j)
    = ∑ k : Fin 1024, val_main_v28 (F := Ideal) cc A b X g (ix3 p r k) * W (ix3 0 k j) := by
  pointwise [val_main_v30, val_main_v29]

/-- The row of the prompt, and its column in it, of a row of the results. -/
def seq (n : Fin 4096) : Fin 16 := ⟨n.val / 256, by omega⟩
def pos (n : Fin 4096) : Fin 256 := ⟨n.val % 256, by omega⟩

/-- One row's projection to one column. -/
def proj (cc : FVec Ideal S1024 .f32) (A : FVec Ideal S1x1024x6144 .f32) (b : FVec Ideal S1x6144 .f32)
    (X : FVec Ideal S16x256x1024 .f32) (g : FVec Ideal S1x1024 .f32) (W : FVec Ideal S1x1024x2688 .f32)
    (p : Fin 16) (r : Fin 256) (j : Fin 2688) : EReal :=
  ∑ k : Fin 1024, hrow (row X p r) (fun k => g (ix2 0 k)) (fun k => modv cc A b ⟨1024 + k.val, by omega⟩)
    (fun k => modv cc A b ⟨k.val, by omega⟩) k * W (ix3 0 k j)

theorem v30_eq (p : Fin 16) (r : Fin 256) (j : Fin 2688) :
    val_main_v30 (F := Ideal) cc A b X g W (ix3 p r j) = proj cc A b X g W p r j := by
  rw [v30_at]
  simp only [v28_at]
  rfl

theorem v32_at (p : Fin 16) (r : Fin 256) (h : Fin 2) (e : Fin 64) :
    val_main_v32 (F := Ideal) cc A b X g W (ix4 p r h e)
      = proj cc A b X g W p r ⟨512 + (64 * h.val + e.val), by omega⟩ := by
  rw [← v30_eq, val_main_v32_apply, val_main_v31_apply]
  refine congrArg _ ?_
  funext a
  refine Fin.ext ?_
  match a with
  | ⟨0, _⟩ => show (((p.val * 256 + r.val) * 2 + h.val) * 64 + e.val) / 32768 = p.val; omega
  | ⟨1, _⟩ => show (((p.val * 256 + r.val) * 2 + h.val) * 64 + e.val) / 128 % 256 = r.val; omega
  | ⟨2, _⟩ => show 512 + (((p.val * 256 + r.val) * 2 + h.val) * 64 + e.val) % 128 = 512 + (64 * h.val + e.val); omega

/-- One lane of one head's normed key. -/
def key (z g : Fin 64 → EReal) (e : Fin 64) : EReal :=
  z e * Ideal.rsqrt (Ideal.div (∑ i, z i * z i) (Ideal.ofBits .f32 1115684864#32) + Ideal.ofBits .f32 897988541#32) * g e

theorem v46_at (p : Fin 16) (r : Fin 256) (h : Fin 2) (e : Fin 64) :
    val_main_v46 (F := Ideal) cc A b X g W kg (ix4 p r h e)
      = key (fun e => proj cc A b X g W p r ⟨512 + (64 * h.val + e.val), by omega⟩) (fun e => kg (ix2 0 e)) e := by
  pointwise [val_main_v46, val_main_v45, val_main_v44, val_main_v43, val_main_v42, val_main_v41, val_main_v40, val_main_v39,
    val_main_v38, val_main_v37, val_main_v36, val_main_v35, val_main_v34, val_main_v33, val_main_cst_4, val_main_cst_5, val_main_cst_3]
  simp only [v32_at]
  rfl

theorem v47_at (n : Fin 4096) (h : Fin 2) (e : Fin 64) :
    val_main_v47 (F := Ideal) cc A b X g W kg (ix2 n ⟨64 * h.val + e.val, by omega⟩)
      = key (fun e => proj cc A b X g W (seq n) (pos n) ⟨512 + (64 * h.val + e.val), by omega⟩) (fun e => kg (ix2 0 e)) e := by
  rw [← v46_at, val_main_v47_apply]
  refine congrArg _ ?_
  funext a
  refine Fin.ext ?_
  match a with
  | ⟨0, _⟩ => show (n.val * 128 + (64 * h.val + e.val)) / 32768 = n.val / 256; omega
  | ⟨1, _⟩ => show (n.val * 128 + (64 * h.val + e.val)) / 128 % 256 = n.val % 256; omega
  | ⟨2, _⟩ => show (n.val * 128 + (64 * h.val + e.val)) / 64 % 2 = h.val; omega
  | ⟨3, _⟩ => show (n.val * 128 + (64 * h.val + e.val)) % 64 = e.val; omega

theorem v49_at (n : Fin 4096) (l : Fin 128) : val_main_v49 (F := Ideal) cc A b X g W (ix2 n l)
    = proj cc A b X g W (seq n) (pos n) ⟨640 + l.val, by omega⟩ := by
  rw [← v30_eq, val_main_v49_apply, val_main_v48_apply]
  refine congrArg _ ?_
  funext a
  refine Fin.ext ?_
  match a with
  | ⟨0, _⟩ => show (n.val * 128 + l.val) / 32768 = n.val / 256; omega
  | ⟨1, _⟩ => show (n.val * 128 + l.val) / 128 % 256 = n.val % 256; omega
  | ⟨2, _⟩ => show 640 + (n.val * 128 + l.val) % 128 = 640 + l.val; omega

theorem v51_at (n : Fin 4096) (j : Fin 1920) : val_main_v51 (F := Ideal) cc A b X g W (ix2 n j)
    = proj cc A b X g W (seq n) (pos n) ⟨768 + j.val, by omega⟩ := by
  rw [← v30_eq, val_main_v51_apply, val_main_v50_apply]
  refine congrArg _ ?_
  funext a
  refine Fin.ext ?_
  match a with
  | ⟨0, _⟩ => show (n.val * 1920 + j.val) / 491520 = n.val / 256; omega
  | ⟨1, _⟩ => show (n.val * 1920 + j.val) / 1920 % 256 = n.val % 256; omega
  | ⟨2, _⟩ => show 768 + (n.val * 1920 + j.val) % 1920 = 768 + j.val; omega

end Cert.CtxRefIdeal.At
-- ==== Proof.Ctx.Equation.lean ====
module

public import proofs.«01_k».proof.Proof.Tame
public import proofs.«01_k».proof.Proof.Gen.Pre_ctx_tame
public import proofs.«01_k».proof.Proof.Ctx.Host
public import proofs.«01_k».proof.Proof.Ctx.Array
public import proofs.«01_k».proof.Proof.Ctx.Ref

/-! The context program's keys and values for the cache and its recurrence inputs are the reference's, where the conditioning row and the modulation's weights are
finite. -/

@[expose] public section

set_option maxRecDepth 16384

noncomputable section

namespace Cert.CtxIdeal.Equation

open Idealize.ShloMosaic Idealize.ShloMosaic.TcCoe Idealize.SL.Sem
open Cert.Tame Cert.CtxIdeal Cert.CtxIdeal.Gen Cert.CtxIdeal.Block Cert.CtxIdeal.Array Cert.CtxIdeal.Host
open Cert.CtxRefIdeal.At (modv row seq pos proj key)

/-- What the precondition says: the conditioning row and the modulation's weights are real. -/
theorem real_of_pre (x0 : FVec Ideal S8x1024 .f32) (cc : FVec Ideal S1024 .f32) (A : FVec Ideal S1x1024x6144 .f32)
    (b : FVec Ideal S1x6144 .f32) (X : FVec Ideal S16x256x1024 .f32) (g : FVec Ideal S1x1024 .f32)
    (W : FVec Ideal S1x1024x2688 .f32) (qg kg : FVec Ideal S1x64 .f32)
    (h : Cert.Pre_ctx_tame.fn x0 cc A b X g W qg kg = fun _ => 1#1) (k : Fin 1024) (j : Fin 6144) :
    (∃ r : ℝ, cc (ix1 k) = (r : EReal)) ∧ ∃ r : ℝ, A (ix3 0 k j) = (r : EReal) := by
  have h' := congrFun h (ix2 k j)
  revert h'
  pointwise [Cert.Pre_ctx_tame.fn]
  intro h'
  obtain ⟨h1, h2⟩ := and_bits h'
  exact ⟨real_of_abs _ (lt_of_lt_of_eq (of_bit h1) ofBits_inf), real_of_abs _ (lt_of_lt_of_eq (of_bit h2) ofBits_inf)⟩

/-- The unit of a real number is real. -/
theorem act_real (r : ℝ) : ∃ s : ℝ, act (r : EReal) = (s : EReal) := by
  refine ⟨r * (1 + Real.exp (-r))⁻¹, ?_⟩
  unfold act
  rw [Ideal.logistic_coe, ← EReal.coe_mul]

/-- The two corrections vanish. -/
theorem mod_eq (s w : Fin 1024 → EReal) (b : EReal) (hs : ∀ k, ∃ r : ℝ, s k = (r : EReal))
    (hw : ∀ k, ∃ r : ℝ, w k = (r : EReal)) : modSplit s w b = ∑ k, act (s k) * w k + b := by
  unfold modSplit
  have h1 : ∑ k, (act (s k) - act (s k)) * w k = 0 := Finset.sum_eq_zero fun k _ => by
    obtain ⟨r, hr⟩ := hs k
    obtain ⟨q, hq⟩ := act_real r
    rw [hr, hq, coe_sub_self, zero_mul]
  have h2 : ∑ k, act (s k) * (w k - w k) = 0 := Finset.sum_eq_zero fun k _ => by
    obtain ⟨r, hr⟩ := hw k
    rw [hr, coe_sub_self, mul_zero]
  rw [h1, h2, add_zero, add_zero]

theorem lit_recip : Ideal.ofBits .f32 1015021568#32 = ((1 / 64 : ℝ) : EReal) := by
  simp [Ideal.ofBits, Ideal.ieee]
  rw [← EReal.coe_mul]
  norm_num

theorem lit_64 : Ideal.ofBits .f32 1115684864#32 = ((64 : ℝ) : EReal) := by
  simp [Ideal.ofBits, Ideal.ieee]
  rw [← EReal.coe_mul]
  norm_num

/-- The head's norm over the padded lanes is its norm over the 64, and zero on the padding. -/
theorem lanes_lo (z g : Fin 128 → EReal) (z' g' : Fin 64 → EReal) (hz : ∀ e : Fin 64, z ⟨e.val, by omega⟩ = z' e)
    (hg : ∀ e : Fin 64, g ⟨e.val, by omega⟩ = g' e) (h0 : ∀ e : Fin 128, 64 ≤ e.val → z e = 0) (e : Fin 64) :
    lanes z g ⟨e.val, by omega⟩ = key z' g' e := by
  unfold lanes key
  rw [sum_lanes (fun e => z e * z e) (fun e he => by rw [h0 e he, mul_zero]), lit_recip, lit_64,
    Ideal.div_coe (by norm_num : (64 : ℝ) ≠ 0), hz, hg]
  simp only [hz]

theorem lanes_hi (z g : Fin 128 → EReal) (h0 : ∀ e : Fin 128, 64 ≤ e.val → z e = 0) (e : Fin 128) (he : 64 ≤ e.val) :
    lanes z g e = 0 := by
  unfold lanes
  rw [h0 e he, zero_mul, zero_mul]

variable (m : (ℓ : Loc nD τ sig) → Buf (Elt Ideal) ℓ) (ρ : Dev nD → PrngReg)

abbrev aC (c : Dev nD) : FVec Ideal S1024 .f32 := m ((c : Thread nD τ).loc main_arg1)
abbrev aA (c : Dev nD) : FVec Ideal S1x1024x6144 .f32 := m ((c : Thread nD τ).loc main_arg2)
abbrev aB (c : Dev nD) : FVec Ideal S1x6144 .f32 := m ((c : Thread nD τ).loc main_arg3)
abbrev aX (c : Dev nD) : FVec Ideal S16x256x1024 .f32 := m ((c : Thread nD τ).loc main_arg4)
abbrev aG (c : Dev nD) : FVec Ideal S1x1024 .f32 := m ((c : Thread nD τ).loc main_arg5)
abbrev aW (c : Dev nD) : FVec Ideal S1x1024x2688 .f32 := m ((c : Thread nD τ).loc main_arg6)
abbrev aK (c : Dev nD) : FVec Ideal S1x64 .f32 := m ((c : Thread nD τ).loc main_arg8)

/-- The conditioning row and the modulation's weights are real. -/
def Tame (c : Dev nD) : Prop :=
  (∀ k, ∃ r : ℝ, aC m c (ix1 k) = (r : EReal)) ∧ ∀ k j, ∃ r : ℝ, aA m c (ix3 0 k j) = (r : EReal)

variable {m}

/-- The modulation the projection reads is the reference's. -/
theorem mod3_eq (c : Dev nD) (ht : Tame m c) (j : Fin 6144) :
    V13 m ρ c main_v10 (ix3 0 0 j) = modv (aC m c) (aA m c) (aB m c) j := by
  rw [mod3, mod_final]
  show modSplit (fun k => V1 m ρ c main_v7 (ix2 0 k)) (fun k => V1 m ρ c main_v0 (ix2 k j)) (V1 m ρ c main_v8 (ix2 0 j)) = _
  refine Eq.trans (congr (congrArg₂ modSplit (funext fun k => cc0 m ρ c k) (funext fun k => w_ada m ρ c k j))
    (b_ada m ρ c j)) ?_
  exact mod_eq _ _ _ ht.1 fun k => ht.2 k j

/-- A row of the normed and modulated prompt. -/
def hRef (m : (ℓ : Loc nD τ sig) → Buf (Elt Ideal) ℓ) (c : Dev nD) (n : Fin 4096) (k : Fin 1024) : EReal :=
  hrow (row (aX m c) (seq n) (pos n)) (fun k => aG m c (ix2 0 k))
    (fun k => modv (aC m c) (aA m c) (aB m c) ⟨1024 + k.val, by omega⟩)
    (fun k => modv (aC m c) (aA m c) (aB m c) ⟨k.val, by omega⟩) k

theorem h_ref (c : Dev nD) (ht : Tame m c) (n : Fin 4096) (k : Fin 1024) : hOf (V13 m ρ) c n k = hRef m c n k := by
  unfold hOf hRef
  exact congrFun (congr (congr (congrArg₂ hrow (funext fun k => x_rows m ρ c n k) (funext fun k => g_mix m ρ c k))
    (funext fun k => mod3_eq ρ c ht _)) (funext fun k => mod3_eq ρ c ht _)) k

theorem rest_eq (c : Dev nD) (ht : Tame m c) (n : Fin 4096) (j : Fin 1920) : restArr (V13 m ρ) c (ix2 n j)
    = proj (aC m c) (aA m c) (aB m c) (aX m c) (aG m c) (aW m c) (seq n) (pos n) ⟨768 + j.val, by omega⟩ := by
  show ∑ k : Fin 1024, hOf (V13 m ρ) c n k * V13 m ρ c main_v30 (ix2 k j) = _
  exact Finset.sum_congr rfl fun k _ => congrArg₂ (fun a b : EReal => a * b) (h_ref ρ c ht n k) (w_rest m ρ c k j)

/-- A head's lane of the padded projection: the projection's column below 64, zero above. -/
theorem sum_lane_lo (c : Dev nD) (n : Fin 4096) {H : ℕ} (o : ℕ) (ho : o + 64 * H ≤ 2688) (h : Fin H) (e : Fin 64) :
    ∑ k : Fin 1024, hRef m c n k * lane (aW m c) o ho k h ⟨e.val, by omega⟩
      = proj (aC m c) (aA m c) (aB m c) (aX m c) (aG m c) (aW m c) (seq n) (pos n) ⟨o + (64 * h.val + e.val), by omega⟩ := by
  have he : e.val < 64 := e.isLt
  simp only [lane, dif_pos he]
  rfl

theorem sum_lane_hi (c : Dev nD) (n : Fin 4096) {H : ℕ} (o : ℕ) (ho : o + 64 * H ≤ 2688) (h : Fin H) (e : Fin 128) (he : 64 ≤ e.val) :
    ∑ k : Fin 1024, hRef m c n k * lane (aW m c) o ho k h e = 0 := by
  simp only [lane, dif_neg (not_lt.2 he), mul_zero, Finset.sum_const_zero]

theorem zk_eq (c : Dev nD) (ht : Tame m c) (n : Fin 4096) (h : Fin 2) (e : Fin 128) :
    zk (V13 m ρ) c n h e = ∑ k : Fin 1024, hRef m c n k * lane (aW m c) 512 (by omega) k h e := by
  unfold zk
  exact Finset.sum_congr rfl fun k _ => congrArg₂ (fun a b : EReal => a * b) (h_ref ρ c ht n k) (w_k m ρ c k h e)

theorem zv_eq (c : Dev nD) (ht : Tame m c) (n : Fin 4096) (h : Fin 2) (e : Fin 128) :
    zv (V13 m ρ) c n h e = ∑ k : Fin 1024, hRef m c n k * lane (aW m c) 640 (by omega) k h e := by
  unfold zv
  exact Finset.sum_congr rfl fun k _ => congrArg₂ (fun a b : EReal => a * b) (h_ref ρ c ht n k) (w_v m ρ c k h e)

/-- A column of the keys or values is a lane of a head. -/
theorem split (i : S4096x128.Idx) :
    ∃ (n : Fin 4096) (h : Fin 2) (e : Fin 64), i = ix2 n ⟨64 * h.val + e.val, by omega⟩ := by
  obtain ⟨n, l, rfl⟩ : ∃ (n : Fin 4096) (l : Fin 128), i = ix2 n l := ⟨i 0, i 1, eq_ix2 i⟩
  exact ⟨n, ⟨l.val / 64, by omega⟩, ⟨l.val % 64, by omega⟩,
    congrArg (ix2 n) (Fin.ext (by show l.val = 64 * (l.val / 64) + l.val % 64; omega))⟩

/-- Two heads' lanes side by side: the head that is zero on its upper lanes gives way to the other. -/
theorem side (f : Fin 2 → Fin 128 → EReal) (h0 : ∀ h (e : Fin 128), 64 ≤ e.val → f h e = 0) (h : Fin 2) (e : Fin 64) :
    f 0 ⟨64 * h.val + e.val, by omega⟩ + f 1 (rot ⟨64 * h.val + e.val, by omega⟩) = f h ⟨e.val, by omega⟩ := by
  match h with
  | ⟨0, _⟩ =>
    rw [h0 1 (rot _) (by show 64 ≤ (64 * 0 + e.val + 128 - 64) % 128; omega), add_zero]
    exact congrArg (f 0) (Fin.ext (by show 64 * 0 + e.val = e.val; omega))
  | ⟨1, _⟩ =>
    rw [h0 0 _ (by show 64 ≤ 64 * 1 + e.val; omega), zero_add]
    exact congrArg (f 1) (Fin.ext (by show (64 * 1 + e.val + 128 - 64) % 128 = e.val; omega))

theorem val_eq (c : Dev nD) (ht : Tame m c) (n : Fin 4096) (h : Fin 2) (e : Fin 64) :
    valArr (V13 m ρ) c (ix2 n ⟨64 * h.val + e.val, by omega⟩)
      = proj (aC m c) (aA m c) (aB m c) (aX m c) (aG m c) (aW m c) (seq n) (pos n) ⟨640 + (64 * h.val + e.val), by omega⟩ := by
  refine (side (fun h e => zv (V13 m ρ) c n h e) (fun h e he => ?_) h e).trans ?_
  · exact (zv_eq ρ c ht n h e).trans (sum_lane_hi c n 640 _ h e he)
  · exact (zv_eq ρ c ht n h _).trans (sum_lane_lo c n 640 _ h e)

theorem key_eq (c : Dev nD) (ht : Tame m c) (n : Fin 4096) (h : Fin 2) (e : Fin 64) :
    keyArr (V13 m ρ) c (ix2 n ⟨64 * h.val + e.val, by omega⟩)
      = key (fun e => proj (aC m c) (aA m c) (aB m c) (aX m c) (aG m c) (aW m c) (seq n) (pos n)
          ⟨512 + (64 * h.val + e.val), by omega⟩) (fun e => aK m c (ix2 0 e)) e := by
  have hi : ∀ (h : Fin 2) (e : Fin 128), 64 ≤ e.val → zk (V13 m ρ) c n h e = 0 := fun h e he =>
    (zk_eq ρ c ht n h e).trans (sum_lane_hi c n 512 _ h e he)
  refine (side (fun h e => lanes (zk (V13 m ρ) c n h) (fun l => V13 m ρ c main_v38 (ix2 0 l)) e)
    (fun h e he => lanes_hi _ _ (hi h) e he) h e).trans ?_
  refine lanes_lo _ _ _ _ (fun e => ?_) (fun e => ?_) (hi h) e
  · exact (zk_eq ρ c ht n h _).trans (sum_lane_lo c n 512 _ h e)
  · have he : e.val < 64 := e.isLt
    show V13 m ρ c main_v38 (ix2 0 ⟨e.val, _⟩) = _
    rw [g_k]
    unfold gain
    rw [dif_pos he]

end Cert.CtxIdeal.Equation
-- ==== Proof.Ctx.Heads.lean ====
module

public import proofs.«01_k».proof.Proof.Ctx.Array

/-! The queries, keys and values the projection writes in heads of 128 lanes: each head is normed over its own lanes, and
the heads' slabs lie side by side. -/

@[expose] public section

set_option maxRecDepth 16384

noncomputable section

namespace Cert.CtxIdeal.Heads

open Idealize.ShloMosaic Idealize.ShloMosaic.TcCoe Idealize.SL.Sem
open Cert.CtxIdeal Cert.CtxIdeal.Gen Cert.CtxIdeal.Block Cert.CtxIdeal.Array

/-- One head's norm, rounded. -/
theorem head_at (a : FVec Ideal S256x128 .f32) (g : FVec Ideal S1x128 .f32) (r : Fin 256) (l : Fin 128) :
    k1_pay16 (F := Ideal) a g (ix2 r l) = lanes (fun l => a (ix2 r l)) (fun l => g (ix2 0 l)) l := by
  pointwise [k1_pay16]
  rfl

/-- Column `j` of a row's normed heads. -/
def headAt (H : ℕ) (z : Fin (128 * H) → EReal) (g : Fin 128 → EReal) (j : Fin (128 * H)) : EReal :=
  lanes (fun l => z ⟨128 * (j.val / 128) + l.val, by omega⟩) g ⟨j.val % 128, Nat.mod_lt _ (by decide)⟩

/-- A slab of the result is one head's. -/
theorem slab (H : ℕ) (z : Fin (128 * H) → EReal) (a : FVec Ideal S256x128 .f32) (g : FVec Ideal S1x128 .f32) (j : Fin (128 * H))
    (b : Fin H) (x : S256x128.Idx) (hj : j.val = 128 * b.val + (x 1).val)
    (ha : ∀ l : Fin 128, a (ix2 (x 0) l) = z ⟨128 * b.val + l.val, by omega⟩) :
    k1_pay16 (F := Ideal) a g x = headAt H z (fun l => g (ix2 0 l)) j := by
  have hx : (x 1).val < 128 := (x 1).isLt
  refine ((congrArg (k1_pay16 (F := Ideal) a g) (eq_ix2 x)).trans (head_at a g (x 0) (x 1))).trans ?_
  unfold headAt
  have e1 : ∀ p, (⟨j.val % 128, p⟩ : Fin 128) = x 1 := fun p => Fin.ext (by show j.val % 128 = (x 1).val; omega)
  rw [e1]
  refine congrArg (fun f => lanes f _ (x 1)) (funext fun l => (ha l).trans (congrArg z (Fin.ext ?_)))
  show 128 * b.val + l.val = 128 * (j.val / 128) + l.val
  omega

/-- The same where the slab's operand is the slice of the projection at column `o`. -/
theorem slice_slab (H : ℕ) (z : FVec Ideal ⟨2, ![256, 128 * H]⟩ .f32) (g : FVec Ideal S1x128 .f32) (r : Fin 256)
    (j : Fin (128 * H)) (b : Fin H) (o : ℕ) (ho : o = 128 * b.val)
    (hs : Shape.Slices ⟨2, ![256, 128 * H]⟩ ![0, o] S256x128) (x : S256x128.Idx) (h0 : r.val = (x 0).val)
    (h1 : j.val = o + (x 1).val) : k1_pay16 (F := Ideal) (extractStridedSlice S256x128 ![0, o] z hs) g x
      = headAt H (fun j => z (ix2 r j)) (fun l => g (ix2 0 l)) j := by
  subst ho
  refine slab H _ _ g j b x h1 fun l => congrArg z (funext fun a => Fin.ext ?_)
  match a with
  | ⟨0, _⟩ => show 0 + (x 0).val = r.val; omega
  | ⟨1, _⟩ => rfl

theorem pay9_at (x : FVec Ideal S256x1024 .f32) (mo : FVec Ideal S1x1x6144 .f32) (g : FVec Ideal S1x1024 .f32)
    (w : FVec Ideal S1024x1024 .bf16) (r : Fin 256) (j : Fin 1024) : k1_pay9 (F := Ideal) x mo g w (ix2 r j)
      = ∑ k, k1_pay7 (F := Ideal) x mo g (ix2 r k) * w (ix2 k j) := by
  pointwise [k1_pay9]

/-- What the body leaves in the queries' block. -/
theorem q_out (x0 : FVec Ideal S256x1024 .f32) (x1 : FVec Ideal S1x1x6144 .f32) (x2 : FVec Ideal S1x1024 .f32)
    (x3 : FVec Ideal S1024x1024 .bf16) (x4 x5 : FVec Ideal S1024x256 .bf16) (x6 : FVec Ideal S1024x1920 .bf16)
    (x7 x8 : FVec Ideal S1x128 .f32) (y : S256x1024.Idx) : out1_9 (F := Ideal) x0 x1 x2 x3 x4 x5 x6 x7 x8 y
      = headAt 8 (fun j => k1_pay9 (F := Ideal) x0 x1 x2 x3 (ix2 (y 0) j)) (fun l => x7 (ix2 0 l)) (y 1) := by
  have hz : k1_pay30 (F := Ideal) x0 x1 x2 x3 x4 x5 x6 x7 x8 = k1_pay9 (F := Ideal) x0 x1 x2 x3 := by
    unfold k1_pay30
    frame_out
  have hg : View.ld (Val := Elt Ideal) (e' := .f32) x7 r1_7 = x7 := by
    frame_out
  unfold out1_9
  rw [hz, hg]
  generalize k1_pay9 (F := Ideal) x0 x1 x2 x3 = z
  canon_tiles x h
  case piece0 => exact slice_slab 8 z x7 (y 0) (y 1) 7 896 rfl slices_S256x1024_o0_896_S256x128 x h0 h1
  case piece1 => exact slice_slab 8 z x7 (y 0) (y 1) 6 768 rfl slices_S256x1024_o0_768_S256x128 x h0 h1
  case piece2 => exact slice_slab 8 z x7 (y 0) (y 1) 5 640 rfl slices_S256x1024_o0_640_S256x128 x h0 h1
  case piece3 => exact slice_slab 8 z x7 (y 0) (y 1) 4 512 rfl slices_S256x1024_o0_512_S256x128 x h0 h1
  case piece4 => exact slice_slab 8 z x7 (y 0) (y 1) 3 384 rfl slices_S256x1024_o0_384_S256x128 x h0 h1
  case piece5 => exact slice_slab 8 z x7 (y 0) (y 1) 2 256 rfl slices_S256x1024_o0_256_S256x128 x h0 h1
  case piece6 => exact slice_slab 8 z x7 (y 0) (y 1) 1 128 rfl slices_S256x1024_o0_128_S256x128 x h0 h1
  case piece7 => exact slice_slab 8 z x7 (y 0) (y 1) 0 0 rfl slices_S256x1024_o0_0_S256x128 x h0 (h1.trans (zero_add _).symm)

/-- What the body leaves in the keys' block of padded heads. -/
theorem k_out (x0 : FVec Ideal S256x1024 .f32) (x1 : FVec Ideal S1x1x6144 .f32) (x2 : FVec Ideal S1x1024 .f32)
    (x3 : FVec Ideal S1024x1024 .bf16) (x4 x5 : FVec Ideal S1024x256 .bf16) (x6 : FVec Ideal S1024x1920 .bf16)
    (x7 x8 : FVec Ideal S1x128 .f32) (y : S256x256.Idx) : out1_12 (F := Ideal) x0 x1 x2 x3 x4 x5 x6 x7 x8 y
      = headAt 2 (fun j => k1_pay11 (F := Ideal) (k1_pay7 x0 x1 x2) (k1_pay10 x4) (constant S256x256 .f32 0x00000000#32)
          (ix2 (y 0) j)) (fun l => x8 (ix2 0 l)) (y 1) := by
  have hz : k1_pay31 (F := Ideal) x0 x1 x2 x3 x4 x5 x6 x7 x8
      = k1_pay11 (F := Ideal) (k1_pay7 x0 x1 x2) (k1_pay10 x4) (constant S256x256 .f32 0x00000000#32) := by
    unfold k1_pay31 k1_pay29
    frame_out
  have hg : View.ld (Val := Elt Ideal) (e' := .f32) x8 r1_7 = x8 := by
    frame_out
  unfold out1_12 k1_pay36 k1_pay35 k1_pay34 k1_pay33
  rw [hz, hg]
  generalize k1_pay11 (F := Ideal) (k1_pay7 x0 x1 x2) (k1_pay10 x4) (constant S256x256 .f32 0x00000000#32) = z
  canon_tiles x h
  case piece0 => exact slice_slab 2 z x8 (y 0) (y 1) 1 128 rfl slices_S256x256_o0_128_S256x128 x h0 h1
  case piece1 =>
    exact slice_slab 2 z x8 (y 0) (y 1) 0 0 rfl slices_S256x256_o0_0_S256x128 x h0 (h1.trans (zero_add _).symm)

variable (V : (c : Dev nD) → (b : Ref sig .tc) → Buf (Elt Ideal) ((c : Thread nD τ).loc b))

abbrev bQ (c : Dev nD) (t : Fin cfg1.N) : FVec Ideal S1024x1024 .bf16 := iblk1 V c 3 t
abbrev bP (c : Dev nD) (t : Fin cfg1.N) : FVec Ideal S1x128 .f32 := iblk1 V c 7 t

/-- Columns of the query, key and value projections over padded heads. -/
def pq (c : Dev nD) (n : Fin 4096) (j : Fin 1024) : EReal := ∑ k : Fin 1024, hOf V c n k * V c main_v18 (ix2 k j)
def pk (c : Dev nD) (n : Fin 4096) (j : Fin 256) : EReal := ∑ k : Fin 1024, hOf V c n k * V c main_v23 (ix2 k j)
def pv (c : Dev nD) (n : Fin 4096) (j : Fin 256) : EReal := ∑ k : Fin 1024, hOf V c n k * V c main_v28 (ix2 k j)

/-- The queries, keys and values in padded heads. -/
def qArr (c : Dev nD) : FVec Ideal S4096x1024 .bf16 := fun i =>
  headAt 8 (pq V c (i 0)) (fun l => V c main_v35 (ix2 0 l)) (i 1)
def kArr (c : Dev nD) : FVec Ideal S4096x256 .bf16 := fun i =>
  headAt 2 (pk V c (i 0)) (fun l => V c main_v38 (ix2 0 l)) (i 1)
def vArr (c : Dev nD) : FVec Ideal S4096x256 .bf16 := fun i => pv V c (i 0) (i 1)

theorem q_final (c : Dev nD) : (dat1 V c).arrAt 9 cfg1.N = qArr V c := by
  refine (dat1 V c).arrAt_eq_of_covers 9 _ (by decide +kernel) fun t hf y => ?_
  blk_simp
  rw [after1_9]
  have hN : t.val < 16 := lt_of_lt_of_eq t.isLt (show cfg1.N = 16 from N_1)
  idx_vars y
  refine (q_out (bX V c t) (bM V c t) (bG V c t) (bQ V c t) (bK V c t) (bV V c t) (bR V c t) (bP V c t) (bN V c t) _).trans ?_
  have h0 : ∀ k j : Fin 1024, bQ V c t (ix2 k j) = V c main_v18 (ix2 k j) := fun k j => by blk_ext [bQ, iblk1, idx1 t]
  have h1 : ∀ l : Fin 128, bP V c t (ix2 0 l) = V c main_v35 (ix2 0 l) := fun l => by blk_ext [bP, iblk1, idx1 t]
  refine Eq.trans (b := qArr V c (ix2 ⟨t.val * 256 + y0.val, by omega⟩ y1)) ?_ (by blk_ext [idx1 t])
  refine congrArg₂ (fun z g => headAt 8 z g y1) (funext fun j => ?_) (funext h1)
  refine (pay9_at _ _ _ _ y0 j).trans (Finset.sum_congr rfl fun k _ => ?_)
  exact congrArg₂ (fun a b : EReal => a * b) (h_eq V c t y0 k _ rfl) (h0 k j)

theorem k_final (c : Dev nD) : (dat1 V c).arrAt 12 cfg1.N = kArr V c := by
  refine (dat1 V c).arrAt_eq_of_covers 12 _ (by decide +kernel) fun t hf y => ?_
  blk_simp
  rw [after1_12]
  have hN : t.val < 16 := lt_of_lt_of_eq t.isLt (show cfg1.N = 16 from N_1)
  idx_vars y
  refine (k_out (bX V c t) (bM V c t) (bG V c t) (bQ V c t) (bK V c t) (bV V c t) (bR V c t) (bP V c t) (bN V c t) _).trans ?_
  have h0 : ∀ (k : Fin 1024) (j : Fin 256), bK V c t (ix2 k j) = V c main_v23 (ix2 k j) := fun k j => by
    blk_ext [bK, iblk1, idx1 t]
  have h1 : ∀ l : Fin 128, bN V c t (ix2 0 l) = V c main_v38 (ix2 0 l) := fun l => by blk_ext [bN, iblk1, idx1 t]
  refine Eq.trans (b := kArr V c (ix2 ⟨t.val * 256 + y0.val, by omega⟩ y1)) ?_ (by blk_ext [idx1 t])
  refine congrArg₂ (fun z g => headAt 2 z g y1) (funext fun j => ?_) (funext h1)
  refine (pay11_at _ _ y0 j).trans (Finset.sum_congr rfl fun k _ => ?_)
  exact congrArg₂ (fun a b : EReal => a * b) (h_eq V c t y0 k _ rfl) (h0 k j)

theorem v_final (c : Dev nD) : (dat1 V c).arrAt 13 cfg1.N = vArr V c := by
  refine (dat1 V c).arrAt_eq_of_covers 13 _ (by decide +kernel) fun t hf y => ?_
  blk_simp
  rw [after1_13]
  unfold_out out1_13
  frame_out
  have hN : t.val < 16 := lt_of_lt_of_eq t.isLt (show cfg1.N = 16 from N_1)
  idx_vars y
  show k1_pay12 (F := Ideal) (k1_pay7 (bX V c t) (bM V c t) (bG V c t)) (bV V c t) (ix2 y0 y1) = _
  have h0 : ∀ (k : Fin 1024) (j : Fin 256), bV V c t (ix2 k j) = V c main_v28 (ix2 k j) := fun k j => by
    blk_ext [bV, iblk1, idx1 t]
  refine Eq.trans (b := vArr V c (ix2 ⟨t.val * 256 + y0.val, by omega⟩ y1)) ?_ (by blk_ext [idx1 t])
  refine (pay12_at _ _ y0 y1).trans ?_
  show _ = ∑ k : Fin 1024, hOf V c ⟨t.val * 256 + y0.val, by omega⟩ k * V c main_v28 (ix2 k y1)
  refine (Finset.sum_congr rfl fun k _ => ?_)
  exact congrArg₂ (fun a b : EReal => a * b) (h_eq V c t y0 k _ rfl) (h0 k y1)

end Cert.CtxIdeal.Heads
-- ==== Proof.Ctx.RefHeads.lean ====
module

public import proofs.«01_k».proof.Proof.Ctx.Ref

/-! What the context's reference computes for the queries, and its queries, keys and values in heads of 128 lanes. -/

@[expose] public section

set_option maxRecDepth 16384

noncomputable section

namespace Cert.CtxRefIdeal.At

open Idealize.ShloMosaic Idealize.ShloMosaic.TcCoe Idealize.SL.Sem
open Cert.CtxRefIdeal Cert.CtxRefIdeal.Read Cert.CtxIdeal.Block

variable (cc : FVec Ideal S1024 .f32) (A : FVec Ideal S1x1024x6144 .f32) (b : FVec Ideal S1x6144 .f32)
  (X : FVec Ideal S16x256x1024 .f32) (g : FVec Ideal S1x1024 .f32) (W : FVec Ideal S1x1024x2688 .f32)
  (qg kg : FVec Ideal S1x64 .f32)

/-- A head's 64 lanes, and zero on 64 more. -/
def padded (f : Fin 64 → EReal) (e : Fin 128) : EReal := if he : e.val < 64 then f ⟨e.val, he⟩ else 0

theorem pad_zero : FloatOps.sitofp (F := Ideal) FTy.f32 (0#32) = (0 : EReal) := by
  show (((0#32 : BitVec 32).toInt : ℝ) : EReal) = 0
  simp

theorem pad_eq (f : Fin 64 → EReal) (e : Fin 128) :
    (if he : e.val < 64 then f ⟨e.val, he⟩ else FloatOps.sitofp (F := Ideal) FTy.f32 (0#32)) = padded f e := by
  rw [pad_zero]
  rfl

theorem v53_at (p : Fin 16) (r : Fin 256) (h : Fin 8) (e : Fin 64) :
    val_main_v53 (F := Ideal) cc A b X g W (ix4 p r h e)
      = proj cc A b X g W p r ⟨0 + (64 * h.val + e.val), by omega⟩ := by
  rw [← v30_eq, val_main_v53_apply, val_main_v52_apply]
  refine congrArg _ ?_
  funext a
  refine Fin.ext ?_
  match a with
  | ⟨0, _⟩ => show (((p.val * 256 + r.val) * 8 + h.val) * 64 + e.val) / 131072 = p.val; omega
  | ⟨1, _⟩ => show (((p.val * 256 + r.val) * 8 + h.val) * 64 + e.val) / 512 % 256 = r.val; omega
  | ⟨2, _⟩ => show (((p.val * 256 + r.val) * 8 + h.val) * 64 + e.val) % 512 = 0 + (64 * h.val + e.val); omega

theorem v71_at (p : Fin 16) (r : Fin 256) (h : Fin 2) (e : Fin 64) :
    val_main_v71 (F := Ideal) cc A b X g W (ix4 p r h e)
      = proj cc A b X g W p r ⟨640 + (64 * h.val + e.val), by omega⟩ := by
  rw [← v30_eq, val_main_v71_apply, val_main_v70_apply]
  refine congrArg _ ?_
  funext a
  refine Fin.ext ?_
  match a with
  | ⟨0, _⟩ => show (((p.val * 256 + r.val) * 2 + h.val) * 64 + e.val) / 32768 = p.val; omega
  | ⟨1, _⟩ => show (((p.val * 256 + r.val) * 2 + h.val) * 64 + e.val) / 128 % 256 = r.val; omega
  | ⟨2, _⟩ => show 640 + (((p.val * 256 + r.val) * 2 + h.val) * 64 + e.val) % 128 = 640 + (64 * h.val + e.val); omega

/-- A head's normed query, times the scores' factor. -/
theorem v69_at (p : Fin 16) (r : Fin 256) (h : Fin 8) (e : Fin 64) :
    val_main_v69 (F := Ideal) cc A b X g W qg (ix4 p r h e)
      = key (fun e => proj cc A b X g W p r ⟨0 + (64 * h.val + e.val), by omega⟩) (fun e => qg (ix2 0 e)) e
        * Ideal.ofBits .f32 0x3E000000#32 := by
  pointwise [val_main_v69, val_main_v68, val_main_v67, val_main_v66, val_main_v65, val_main_v64, val_main_v63, val_main_v62,
    val_main_v61, val_main_v60, val_main_v59, val_main_v58, val_main_v57, val_main_v56, val_main_v55, val_main_v54,
    val_main_cst_6, val_main_cst_7, val_main_cst_8, val_main_cst_9]
  simp only [v53_at, zero_add]
  rfl

theorem v73_at (p : Fin 16) (r : Fin 256) (h : Fin 8) (e : Fin 128) :
    val_main_v73 (F := Ideal) cc A b X g W qg (ix4 p r h e)
      = padded (fun e => val_main_v69 (F := Ideal) cc A b X g W qg (ix4 p r h e)) e := by
  generalize hv : val_main_v69 (F := Ideal) cc A b X g W qg = f
  refine Eq.trans ?_ (pad_eq (fun e => f (ix4 p r h e)) e)
  pointwise [val_main_v73, val_main_v72, val_main_call1_v0, val_main_c]
  simp only [hv]

theorem v75_at (p : Fin 16) (r : Fin 256) (h : Fin 2) (e : Fin 128) :
    val_main_v75 (F := Ideal) cc A b X g W kg (ix4 p r h e)
      = padded (fun e => val_main_v46 (F := Ideal) cc A b X g W kg (ix4 p r h e)) e := by
  generalize hv : val_main_v46 (F := Ideal) cc A b X g W kg = f
  refine Eq.trans ?_ (pad_eq (fun e => f (ix4 p r h e)) e)
  pointwise [val_main_v75, val_main_v74, val_main_call2_v0, val_main_c_10]
  simp only [hv]

theorem v77_at (p : Fin 16) (r : Fin 256) (h : Fin 2) (e : Fin 128) :
    val_main_v77 (F := Ideal) cc A b X g W (ix4 p r h e)
      = padded (fun e => val_main_v71 (F := Ideal) cc A b X g W (ix4 p r h e)) e := by
  generalize hv : val_main_v71 (F := Ideal) cc A b X g W = f
  refine Eq.trans ?_ (pad_eq (fun e => f (ix4 p r h e)) e)
  pointwise [val_main_v77, val_main_v76, val_main_call3_v0, val_main_c_11]
  simp only [hv]

/-- Row `n`, head `h`, lane `e`, read through the flattening of the heads. -/
theorem flat2 (n : Fin 4096) (h : Fin 2) (e : Fin 128) (i : S16x256x2x128.Idx)
    (h0 : (i 0).val = (n.val * 256 + (128 * h.val + e.val)) / 65536)
    (h1 : (i 1).val = (n.val * 256 + (128 * h.val + e.val)) / 256 % 256)
    (h2 : (i 2).val = (n.val * 256 + (128 * h.val + e.val)) / 128 % 2)
    (h3 : (i 3).val = (n.val * 256 + (128 * h.val + e.val)) % 128) : i = ix4 (seq n) (pos n) h e := by
  funext a
  refine Fin.ext ?_
  match a with
  | ⟨0, _⟩ => show (i 0).val = n.val / 256; omega
  | ⟨1, _⟩ => show (i 1).val = n.val % 256; omega
  | ⟨2, _⟩ => show (i 2).val = h.val; omega
  | ⟨3, _⟩ => show (i 3).val = e.val; omega

theorem v78_at (n : Fin 4096) (h : Fin 8) (e : Fin 128) :
    val_main_v78 (F := Ideal) cc A b X g W qg (ix2 n ⟨128 * h.val + e.val, by omega⟩)
      = padded (fun e => key (fun e => proj cc A b X g W (seq n) (pos n) ⟨0 + (64 * h.val + e.val), by omega⟩)
          (fun e => qg (ix2 0 e)) e * Ideal.ofBits .f32 0x3E000000#32) e := by
  simp only [← v69_at]
  rw [← v73_at, val_main_v78_apply]
  refine congrArg _ ?_
  funext a
  refine Fin.ext ?_
  match a with
  | ⟨0, _⟩ => show (n.val * 1024 + (128 * h.val + e.val)) / 262144 = n.val / 256; omega
  | ⟨1, _⟩ => show (n.val * 1024 + (128 * h.val + e.val)) / 1024 % 256 = n.val % 256; omega
  | ⟨2, _⟩ => show (n.val * 1024 + (128 * h.val + e.val)) / 128 % 8 = h.val; omega
  | ⟨3, _⟩ => show (n.val * 1024 + (128 * h.val + e.val)) % 128 = e.val; omega

theorem v79_at (n : Fin 4096) (h : Fin 2) (e : Fin 128) :
    val_main_v79 (F := Ideal) cc A b X g W kg (ix2 n ⟨128 * h.val + e.val, by omega⟩)
      = padded (fun e => key (fun e => proj cc A b X g W (seq n) (pos n) ⟨512 + (64 * h.val + e.val), by omega⟩)
          (fun e => kg (ix2 0 e)) e) e := by
  simp only [← v46_at]
  rw [← v75_at, val_main_v79_apply]
  exact congrArg _ (flat2 n h e _ rfl rfl rfl rfl)

theorem v80_at (n : Fin 4096) (h : Fin 2) (e : Fin 128) :
    val_main_v80 (F := Ideal) cc A b X g W (ix2 n ⟨128 * h.val + e.val, by omega⟩)
      = padded (fun e => proj cc A b X g W (seq n) (pos n) ⟨640 + (64 * h.val + e.val), by omega⟩) e := by
  simp only [← v71_at]
  rw [← v77_at, val_main_v80_apply]
  exact congrArg _ (flat2 n h e _ rfl rfl rfl rfl)

end Cert.CtxRefIdeal.At
-- ==== Proof.Ctx.HeadEquation.lean ====
module

public import proofs.«01_k».proof.Proof.Ctx.Heads
public import proofs.«01_k».proof.Proof.Ctx.RefHeads
public import proofs.«01_k».proof.Proof.Ctx.Equation

/-! The context program's queries, keys and values in padded heads are the reference's, where the conditioning row and the
modulation's weights are finite. -/

@[expose] public section

set_option maxRecDepth 16384

noncomputable section

namespace Cert.CtxIdeal.Equation

open Idealize.ShloMosaic Idealize.ShloMosaic.TcCoe Idealize.SL.Sem
open Cert.Tame Cert.CtxIdeal Cert.CtxIdeal.Gen Cert.CtxIdeal.Block Cert.CtxIdeal.Array Cert.CtxIdeal.Host Cert.CtxIdeal.Heads
open Cert.CtxRefIdeal.At (modv row seq pos proj key padded)

/-- A column of padded heads is a lane of a head. -/
theorem split_heads (N H : ℕ) (i : Shape.Idx ⟨2, ![N, 128 * H]⟩) : ∃ (n : Fin N) (h : Fin H) (e : Fin 128),
    i = ix2 n ⟨128 * h.val + e.val, by omega⟩ := by
  obtain ⟨n, l, rfl⟩ : ∃ (n : Fin N) (l : Fin (128 * H)), i = ix2 n l := ⟨i 0, i 1, eq_ix2 i⟩
  exact ⟨n, ⟨l.val / 128, by omega⟩, ⟨l.val % 128, Nat.mod_lt _ (by decide)⟩,
    congrArg (ix2 n) (Fin.ext (by show l.val = 128 * (l.val / 128) + l.val % 128; omega))⟩

/-- Lane `e` of head `h` among normed heads. -/
theorem headAt_lane (H : ℕ) (z : Fin (128 * H) → EReal) (g : Fin 128 → EReal) (h : Fin H) (e : Fin 128) :
    headAt H z g ⟨128 * h.val + e.val, by omega⟩ = lanes (fun l => z ⟨128 * h.val + l.val, by omega⟩) g e := by
  unfold headAt
  have he : ∀ p, (⟨(128 * h.val + e.val) % 128, p⟩ : Fin 128) = e := fun p =>
    Fin.ext (by show (128 * h.val + e.val) % 128 = e.val; omega)
  show lanes _ g ⟨(128 * h.val + e.val) % 128, _⟩ = _
  rw [he]
  refine congrArg (fun f => lanes f g e) (funext fun l => congrArg z (Fin.ext ?_))
  show 128 * ((128 * h.val + e.val) / 128) + l.val = 128 * h.val + l.val
  omega

/-- A padded head's norm is the norm of its 64 lanes, padded. -/
theorem lanes_padded (z g : Fin 128 → EReal) (z' g' : Fin 64 → EReal) (hz : ∀ e : Fin 64, z ⟨e.val, by omega⟩ = z' e)
    (hg : ∀ e : Fin 64, g ⟨e.val, by omega⟩ = g' e) (h0 : ∀ e : Fin 128, 64 ≤ e.val → z e = 0) (e : Fin 128) :
    lanes z g e = padded (key z' g') e := by
  unfold padded
  by_cases he : e.val < 64
  · rw [dif_pos he]
    exact lanes_lo z g z' g' hz hg h0 ⟨e.val, he⟩
  · rw [dif_neg he]
    exact lanes_hi z g h0 e (not_lt.1 he)

variable (m : (ℓ : Loc nD τ sig) → Buf (Elt Ideal) ℓ) (ρ : Dev nD → PrngReg)

abbrev aQ (c : Dev nD) : FVec Ideal S1x64 .f32 := m ((c : Thread nD τ).loc main_arg7)

variable {m}

theorem pq_eq (c : Dev nD) (ht : Tame m c) (n : Fin 4096) (h : Fin 8) (e : Fin 128) :
    pq (V13 m ρ) c n ⟨128 * h.val + e.val, by omega⟩
      = ∑ k : Fin 1024, hRef m c n k * lane (aW m c) 0 (by omega) k h e := by
  unfold pq
  exact Finset.sum_congr rfl fun k _ => congrArg₂ (fun a b : EReal => a * b) (h_ref ρ c ht n k) (w_q m ρ c k h e)

theorem q_eq (c : Dev nD) (ht : Tame m c) (n : Fin 4096) (h : Fin 8) (e : Fin 128) :
    qArr (V13 m ρ) c (ix2 n ⟨128 * h.val + e.val, by omega⟩)
      = padded (fun e => key (fun e => proj (aC m c) (aA m c) (aB m c) (aX m c) (aG m c) (aW m c) (seq n) (pos n)
          ⟨0 + (64 * h.val + e.val), by omega⟩) (fun e => aQ m c (ix2 0 e)) e * Ideal.ofBits .f32 0x3E000000#32) e := by
  refine (headAt_lane 8 (pq (V13 m ρ) c n) _ h e).trans ?_
  refine (lanes_padded _ _ (fun e => proj (aC m c) (aA m c) (aB m c) (aX m c) (aG m c) (aW m c) (seq n) (pos n)
          ⟨0 + (64 * h.val + e.val), by omega⟩) (fun e => aQ m c (ix2 0 e) * Ideal.ofBits .f32 0x3E000000#32)
          (fun e => ?_) (fun e => ?_) (fun e he => ?_) e).trans ?_
  · exact (pq_eq ρ c ht n h _).trans (sum_lane_lo c n 0 _ h e)
  · have he : e.val < 64 := e.isLt
    show V13 m ρ c main_v35 (ix2 0 ⟨e.val, _⟩) = _
    rw [g_q]
    unfold gain
    rw [dif_pos he]
    rfl
  · exact (pq_eq ρ c ht n h e).trans (sum_lane_hi c n 0 _ h e he)
  · refine congrArg (fun f => padded f e) (funext fun e => ?_)
    unfold key
    exact (mul_assoc _ _ _).symm

theorem pk_eq (c : Dev nD) (ht : Tame m c) (n : Fin 4096) (h : Fin 2) (e : Fin 128) :
    pk (V13 m ρ) c n ⟨128 * h.val + e.val, by omega⟩
      = ∑ k : Fin 1024, hRef m c n k * lane (aW m c) 512 (by omega) k h e :=
  zk_eq ρ c ht n h e

theorem k_eq (c : Dev nD) (ht : Tame m c) (n : Fin 4096) (h : Fin 2) (e : Fin 128) :
    kArr (V13 m ρ) c (ix2 n ⟨128 * h.val + e.val, by omega⟩)
      = padded (fun e => key (fun e => proj (aC m c) (aA m c) (aB m c) (aX m c) (aG m c) (aW m c) (seq n) (pos n)
          ⟨512 + (64 * h.val + e.val), by omega⟩) (fun e => aK m c (ix2 0 e)) e) e := by
  refine (headAt_lane 2 (pk (V13 m ρ) c n) _ h e).trans ?_
  refine lanes_padded _ _ _ _ (fun e => ?_) (fun e => ?_) (fun e he => ?_) e
  · exact (pk_eq ρ c ht n h _).trans (sum_lane_lo c n 512 _ h e)
  · have he : e.val < 64 := e.isLt
    show V13 m ρ c main_v38 (ix2 0 ⟨e.val, _⟩) = _
    rw [g_k]
    unfold gain
    rw [dif_pos he]
  · exact (pk_eq ρ c ht n h e).trans (sum_lane_hi c n 512 _ h e he)

theorem v_eq (c : Dev nD) (ht : Tame m c) (n : Fin 4096) (h : Fin 2) (e : Fin 128) :
    vArr (V13 m ρ) c (ix2 n ⟨128 * h.val + e.val, by omega⟩)
      = padded (fun e => proj (aC m c) (aA m c) (aB m c) (aX m c) (aG m c) (aW m c) (seq n) (pos n)
          ⟨640 + (64 * h.val + e.val), by omega⟩) e := by
  refine (zv_eq ρ c ht n h e).trans ?_
  unfold padded
  by_cases he : e.val < 64
  · rw [dif_pos he]
    exact sum_lane_lo c n 640 _ h ⟨e.val, he⟩
  · rw [dif_neg he]
    exact sum_lane_hi c n 640 _ h e (not_lt.1 he)

end Cert.CtxIdeal.Equation
-- ==== Proof.Mix.Run.lean ====
module

public import proofs.«01_k».proof.Proof.Gen.MixIdeal.Frame

/-! The run of the output projection's call: the residual and its norm end at what the pipeline leaves in their arrays, every
argument as it was. -/

@[expose] public section

set_option maxRecDepth 16384

noncomputable section

namespace Cert.MixIdeal.Run

open Idealize.ShloMosaic Idealize.ShloMosaic.TcCoe Idealize.SL.Sem
open Cert.MixIdeal Cert.MixIdeal.Gen

variable {F : FTy → Type} [FloatOps F]
variable (m : (ℓ : Loc nD τ sig) → Buf (Elt F) ℓ) (ρ : Dev nD → PrngReg)

set_option maxHeartbeats 1000000 in
/-- The call runs to the end with its two results at the pipeline's arrays. -/
theorem run : θ_run defs (onTc (τ := τ) (main (F := F))) ⟨m, fun _ => 0, ρ⟩ (fun r => ∀ c : Dev nD,
      r.2.mem ((c.tc : Thread nD τ).loc main_v22_0) = (dats m 0 c).arrAt 14 cfg0.N
      ∧ r.2.mem ((c.tc : Thread nD τ).loc main_v22_1) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ?_) (run_main m ρ)
  have staged (w : Fin cfg0.W) (hw : (cfg0.win w).isOut = false) := ((h c).1 w).trans (((dats m 0 c).arrAt_in w hw _).trans (A_eq m c w))
  have other (b : Ref sig .tc) (hb : b ∈ Pipeline.restRefs sig cfg0.spec) := (h c).2 b hb
  exact ⟨(h c).1 14, (h c).1 15,
    (staged 0 rfl).trans (V_main_arg0 m c), (staged 1 rfl).trans (V_main_arg1 m c),
    (staged 2 rfl).trans (V_main_arg2 m c), (staged 3 rfl).trans (V_main_arg3 m c),
    (staged 4 rfl).trans (V_main_arg4 m c), (staged 5 rfl).trans (V_main_arg5 m c),
    (other main_arg6 (Pipeline.mem_restRefs_of main_arg6 (by decide) (by decide))).trans (V_main_arg6 m c),
    (other main_arg7 (Pipeline.mem_restRefs_of main_arg7 (by decide) (by decide))).trans (V_main_arg7 m c),
    (other main_arg8 (Pipeline.mem_restRefs_of main_arg8 (by decide) (by decide))).trans (V_main_arg8 m c),
    (other main_arg9 (Pipeline.mem_restRefs_of main_arg9 (by decide) (by decide))).trans (V_main_arg9 m c),
    (other main_arg10 (Pipeline.mem_restRefs_of main_arg10 (by decide) (by decide))).trans (V_main_arg10 m c),
    (other main_arg11 (Pipeline.mem_restRefs_of main_arg11 (by decide) (by decide))).trans (V_main_arg11 m c),
    (other main_arg12 (Pipeline.mem_restRefs_of main_arg12 (by decide) (by decide))).trans (V_main_arg12 m c)⟩

end Cert.MixIdeal.Run
-- ==== Proof.Mix.Block.lean ====
module

public import proofs.«01_k».proof.Proof.Gen.MixIdeal.Frame
public import proofs.«01_k».proof.Proof.Ctx.Block
public import Idealize.ShloMosaic.Lib.Pointwise
public import Idealize.ShloMosaic.Lib.Pipeline.ValueKit

/-! What one block of the output projection's call computes: a row's heads normed and gated, its product with the weights
beside the attention's, the new residual and its modulated norm. -/

@[expose] public section

set_option maxRecDepth 16384

noncomputable section

namespace Cert.MixIdeal.Block

open Idealize.ShloMosaic Idealize.ShloMosaic.TcCoe Idealize.SL.Sem
open Cert.MixIdeal Cert.MixIdeal.Gen
open Cert.CtxIdeal.Block (hrow)

/-- A column's share of a row: the row against the column's lanes `S`, with the correction of the split row, over 64. -/
def share (x : Fin 512 → EReal) (S : Fin 512 → Fin 512 → EReal) (j : Fin 512) : EReal :=
  (∑ k, x k * S k j + ∑ k, (x k - x k) * S k j) * Ideal.ofBits .f32 1015021568#32

/-- A row less its columns' shares. -/
def less (x : Fin 512 → EReal) (S : Fin 512 → Fin 512 → EReal) (j : Fin 512) : EReal := x j - share x S j

/-- A row normed by its columns' shares, with gain and offset. -/
def normed (x : Fin 512 → EReal) (S : Fin 512 → Fin 512 → EReal) (g b : Fin 512 → EReal) (j : Fin 512) : EReal :=
  less x S j * Ideal.rsqrt (share (fun k => less x S k * less x S k) S j + Ideal.ofBits .f32 975685036#32) * g j + b j

/-- A row's product with the weights: the attention's half and the recurrence's. -/
def halves (a w : Fin 512 → EReal) (A W : Fin 512 → Fin 1024 → EReal) (j : Fin 1024) : EReal :=
  ∑ k, a k * A k j + ∑ k, w k * W k j

/-- The residual with a row's gated norm added. -/
def resid (x t y g : Fin 1024 → EReal) (j : Fin 1024) : EReal :=
  x j + t j * (y j * Ideal.rsqrt (Ideal.div (∑ i, y i * y i) (Ideal.ofBits .f32 1149239296#32) + Ideal.ofBits .f32 897988541#32) * g j)

theorem pay2_at (s : FVec Ideal S512x512 .bf16) (o p : FVec Ideal S1x512x512 .f32) (g b : FVec Ideal S1x512 .f32)
    (r j : Fin 512) : k0_pay2 (F := Ideal) s o p g b (ix2 r j)
      = normed (fun k => o (ix3 0 r k) + p (ix3 0 r k)) (fun k j => s (ix2 k j)) (fun k => g (ix2 0 k)) (fun k => b (ix2 0 k)) j := by
  pointwise [k0_pay2]
  rfl

theorem pay6_at (n : FVec Ideal S512x512 .f32) (u g a : FVec Ideal S512x512 .f32) (A W : FVec Ideal S512x1024 .bf16)
    (mo : FVec Ideal S1x1x6144 .f32) (x : FVec Ideal S512x1024 .f32) (q : FVec Ideal S1x1024 .f32) (r : Fin 512) (j : Fin 1024) :
    k0_pay6 (F := Ideal) n u g a A W mo x q (ix2 r j)
      = resid (fun j => x (ix2 r j)) (fun j => mo (ix3 0 0 ⟨2048 + j.val, by omega⟩))
          (halves (fun k => a (ix2 r k)) (fun k => (n (ix2 r k) + u (ix2 r k)) * g (ix2 r k)) (fun k j => A (ix2 k j))
            (fun k j => W (ix2 k j))) (fun j => q (ix2 0 j)) j := by
  pointwise [k0_pay6, k0_pay3]
  rfl

theorem pay8_at (mo : FVec Ideal S1x1x6144 .f32) (x : FVec Ideal S512x1024 .f32) (q : FVec Ideal S1x1024 .f32)
    (r : Fin 512) (j : Fin 1024) : k0_pay8 (F := Ideal) (k0_pay4 mo) (k0_pay5 mo) x q (ix2 r j)
      = hrow (fun j => x (ix2 r j)) (fun j => q (ix2 0 j)) (fun j => mo (ix3 0 0 ⟨4096 + j.val, by omega⟩))
          (fun j => mo (ix3 0 0 ⟨3072 + j.val, by omega⟩)) j := by
  pointwise [k0_pay8, k0_pay7, k0_pay4, k0_pay5, k0_pay3]
  rfl

end Cert.MixIdeal.Block
-- ==== Proof.Mix.Ref.lean ====
module

public import proofs.«01_k».proof.Proof.Gen.MixRefIdeal.Read
public import proofs.«01_k».proof.Proof.Mix.Block

/-! What the output projection's reference computes: each head's norm of the recurrence's outputs, the product with the
weights, the new residual and its modulated norm, at one row and column. -/

@[expose] public section

set_option maxRecDepth 16384

noncomputable section

namespace Cert.MixRefIdeal.At

open Idealize.ShloMosaic Idealize.ShloMosaic.TcCoe Idealize.SL.Sem
open Cert.MixRefIdeal Cert.MixRefIdeal.Read
open Cert.CtxIdeal.Block (hrow)
open Cert.MixIdeal.Block (halves resid)

variable (a : FVec Ideal S16384x512 .f32) (o : FVec Ideal S2x16384x512 .f32) (u q : FVec Ideal S16384x512 .f32)
  (x : FVec Ideal S16384x1024 .f32) (mo : FVec Ideal S16x1x6144 .f32) (lg lb : FVec Ideal S1x512 .f32)
  (W : FVec Ideal S1x1024x1024 .f32) (gp gf : FVec Ideal S1x1024 .f32)

/-- A lane of a head of the recurrence's two outputs' sum. -/
def head (o : FVec Ideal S2x16384x512 .f32) (n : Fin 16384) (h : Fin 8) (e : Fin 64) : EReal :=
  o (ix3 0 n ⟨64 * h.val + e.val, by omega⟩) + o (ix3 1 n ⟨64 * h.val + e.val, by omega⟩)

/-- A row's mean over 64 lanes. -/
def mean (z : Fin 64 → EReal) : EReal := Ideal.div (∑ i, z i) (Ideal.ofBits .f32 1115684864#32)

/-- One lane of a head less its mean, over the root of its variance. -/
def unit (z : Fin 64 → EReal) (e : Fin 64) : EReal :=
  (z e - mean z) * Ideal.rsqrt (mean (fun i => (z i - mean z) * (z i - mean z)) + Ideal.ofBits .f32 975685036#32)

theorem v4_at (n : Fin 16384) (k : Fin 512) : val_main_v4 (F := Ideal) o (ix2 n k) = o (ix3 0 n k) + o (ix3 1 n k) := by
  pointwise [val_main_v4, val_main_v3, val_main_v2, val_main_v1, val_main_v0]

theorem v5_at (n : Fin 16384) (h : Fin 8) (e : Fin 64) : val_main_v5 (F := Ideal) o (ix3 n h e) = head o n h e := by
  refine Eq.trans ?_ (v4_at o n ⟨64 * h.val + e.val, by omega⟩)
  rw [val_main_v5_apply]
  refine congrArg _ ?_
  funext d
  refine Fin.ext ?_
  match d with
  | ⟨0, _⟩ => show ((n.val * 8 + h.val) * 64 + e.val) / 512 = n.val; omega
  | ⟨1, _⟩ => show ((n.val * 8 + h.val) * 64 + e.val) % 512 = 64 * h.val + e.val; omega

theorem v9_at (n : Fin 16384) (h : Fin 8) : val_main_v9 (F := Ideal) o (ix3 n h 0) = mean (head o n h) := by
  pointwise [val_main_v9, val_main_v8, val_main_v7, val_main_v6, val_main_cst, val_main_cst_0]
  simp only [v5_at]
  rfl

theorem v18_at (n : Fin 16384) (h : Fin 8) : val_main_v18 (F := Ideal) o (ix3 n h 0)
    = mean (fun i => (head o n h i - mean (head o n h)) * (head o n h i - mean (head o n h))) := by
  pointwise [val_main_v18, val_main_v17, val_main_v16, val_main_v15, val_main_v14, val_main_v13, val_main_v12, val_main_v11,
    val_main_v10, val_main_cst_1, val_main_cst_2]
  simp only [v5_at, v9_at]
  rfl

theorem v25_at (n : Fin 16384) (h : Fin 8) (e : Fin 64) :
    val_main_v25 (F := Ideal) o (ix3 n h e) = unit (head o n h) e := by
  pointwise [val_main_v25, val_main_v24, val_main_v23, val_main_v22, val_main_v21, val_main_v20, val_main_v19, val_main_cst_3]
  rw [v5_at, v9_at, v18_at]
  rfl

theorem v26_at (n : Fin 16384) (h : Fin 8) (e : Fin 64) :
    val_main_v26 (F := Ideal) o (ix2 n ⟨64 * h.val + e.val, by omega⟩) = unit (head o n h) e := by
  rw [← v25_at, val_main_v26_apply]
  refine congrArg _ ?_
  funext d
  refine Fin.ext ?_
  match d with
  | ⟨0, _⟩ => show (n.val * 512 + (64 * h.val + e.val)) / 512 = n.val; omega
  | ⟨1, _⟩ => show (n.val * 512 + (64 * h.val + e.val)) / 64 % 8 = h.val; omega
  | ⟨2, _⟩ => show (n.val * 512 + (64 * h.val + e.val)) % 64 = e.val; omega

theorem v36_split (n : Fin 16384) (k : Fin 512) : val_main_v36 (F := Ideal) o u q lg lb (ix2 n k)
    = (val_main_v26 (F := Ideal) o (ix2 n k) * lg (ix2 0 k) + lb (ix2 0 k) + u (ix2 n k)) * q (ix2 n k) := by
  pointwise [val_main_v36, val_main_v35, val_main_v34, val_main_v33, val_main_v32, val_main_v31, val_main_v30, val_main_v29,
    val_main_v28, val_main_v27]

/-- One lane of a head, normed, with gain, offset, bonus and gate. -/
theorem v36_at (n : Fin 16384) (h : Fin 8) (e : Fin 64) :
    val_main_v36 (F := Ideal) o u q lg lb (ix2 n ⟨64 * h.val + e.val, by omega⟩)
      = (unit (head o n h) e * lg (ix2 0 ⟨64 * h.val + e.val, by omega⟩) + lb (ix2 0 ⟨64 * h.val + e.val, by omega⟩)
          + u (ix2 n ⟨64 * h.val + e.val, by omega⟩)) * q (ix2 n ⟨64 * h.val + e.val, by omega⟩) := by
  rw [v36_split, v26_at]

theorem v37_lo (n : Fin 16384) (k : Fin 512) :
    val_main_v37 (F := Ideal) a o u q lg lb (ix2 n ⟨k.val, by omega⟩) = a (ix2 n k) := by
  unfold val_main_v37
  generalize val_main_v36 (F := Ideal) o u q lg lb = w
  pointwise

theorem v37_hi (n : Fin 16384) (k : Fin 512) :
    val_main_v37 (F := Ideal) a o u q lg lb (ix2 n ⟨512 + k.val, by omega⟩)
      = val_main_v36 (F := Ideal) o u q lg lb (ix2 n k) := by
  unfold val_main_v37
  generalize val_main_v36 (F := Ideal) o u q lg lb = w
  pointwise

theorem v39_sum (n : Fin 16384) (j : Fin 1024) : val_main_v39 (F := Ideal) a o u q lg lb W (ix2 n j)
    = ∑ k : Fin 1024, val_main_v37 (F := Ideal) a o u q lg lb (ix2 n k) * W (ix3 0 k j) := by
  pointwise [val_main_v39, val_main_v38]

/-- The product with the weights, in two halves. -/
theorem v39_at (n : Fin 16384) (j : Fin 1024) : val_main_v39 (F := Ideal) a o u q lg lb W (ix2 n j)
    = halves (fun k => a (ix2 n k)) (fun k => val_main_v36 (F := Ideal) o u q lg lb (ix2 n k))
        (fun k j => W (ix3 0 ⟨k.val, by omega⟩ j)) (fun k j => W (ix3 0 ⟨512 + k.val, by omega⟩ j)) j := by
  rw [v39_sum]
  refine (Fin.sum_univ_add (a := 512) (b := 512) fun k =>
    val_main_v37 (F := Ideal) a o u q lg lb (ix2 n k) * W (ix3 0 k j)).trans ?_
  unfold halves
  exact congrArg₂ (fun a b : EReal => a + b)
    (Finset.sum_congr rfl fun k _ => congrArg (fun z : EReal => z * W (ix3 0 ⟨k.val, by omega⟩ j)) (v37_lo a o u q lg lb n k))
    (Finset.sum_congr rfl fun k _ => congrArg (fun z : EReal => z * W (ix3 0 ⟨512 + k.val, by omega⟩ j)) (v37_hi a o u q lg lb n k))

theorem v54_at (n : Fin 16384) : val_main_v54 (F := Ideal) a o u q lg lb W (ix2 n 0)
    = Ideal.rsqrt (Ideal.div (∑ i : Fin 1024, val_main_v39 (F := Ideal) a o u q lg lb W (ix2 n i)
        * val_main_v39 (F := Ideal) a o u q lg lb W (ix2 n i)) (Ideal.ofBits .f32 1149239296#32) + Ideal.ofBits .f32 897988541#32) := by
  pointwise [val_main_v54, val_main_v53, val_main_v52, val_main_v51, val_main_v50, val_main_v49, val_main_v48, val_main_v47,
    val_main_cst_4, val_main_cst_5, val_main_cst_6]

theorem v60_at (n : Fin 16384) (j : Fin 1024) : val_main_v60 (F := Ideal) a o u q lg lb W gp (ix2 n j)
    = val_main_v39 (F := Ideal) a o u q lg lb W (ix2 n j)
      * Ideal.rsqrt (Ideal.div (∑ i : Fin 1024, val_main_v39 (F := Ideal) a o u q lg lb W (ix2 n i)
        * val_main_v39 (F := Ideal) a o u q lg lb W (ix2 n i)) (Ideal.ofBits .f32 1149239296#32) + Ideal.ofBits .f32 897988541#32)
      * gp (ix2 0 j) := by
  rw [← v54_at]
  pointwise [val_main_v60, val_main_v59, val_main_v58, val_main_v57, val_main_v56, val_main_v55]

/-- The row of the flat arrays that holds a place of a sequence. -/
def flat (b : Fin 8) (t : Fin 2048) : Fin 16384 := ⟨2048 * b.val + t.val, by omega⟩

theorem v61_at (b : Fin 8) (t : Fin 2048) (j : Fin 1024) : val_main_v61 (F := Ideal) a o u q lg lb W gp (ix3 b t j)
    = val_main_v60 (F := Ideal) a o u q lg lb W gp (ix2 (flat b t) j) := by
  rw [val_main_v61_apply]
  refine congrArg _ ?_
  funext d
  refine Fin.ext ?_
  match d with
  | ⟨0, _⟩ => show ((b.val * 2048 + t.val) * 1024 + j.val) / 1024 = 2048 * b.val + t.val; omega
  | ⟨1, _⟩ => show ((b.val * 2048 + t.val) * 1024 + j.val) % 1024 = j.val; omega

theorem v62_at (b : Fin 8) (t : Fin 2048) (j : Fin 1024) : val_main_v62 (F := Ideal) x (ix3 b t j) = x (ix2 (flat b t) j) := by
  rw [val_main_v62_apply]
  refine congrArg _ ?_
  funext d
  refine Fin.ext ?_
  match d with
  | ⟨0, _⟩ => show ((b.val * 2048 + t.val) * 1024 + j.val) / 1024 = 2048 * b.val + t.val; omega
  | ⟨1, _⟩ => show ((b.val * 2048 + t.val) * 1024 + j.val) % 1024 = j.val; omega

/-- The new residual's row. -/
def xRef (a : FVec Ideal S16384x512 .f32) (o : FVec Ideal S2x16384x512 .f32) (u q : FVec Ideal S16384x512 .f32)
    (x : FVec Ideal S16384x1024 .f32) (mo : FVec Ideal S16x1x6144 .f32) (lg lb : FVec Ideal S1x512 .f32)
    (W : FVec Ideal S1x1024x1024 .f32) (gp : FVec Ideal S1x1024 .f32) (b : Fin 8) (t : Fin 2048) (j : Fin 1024) : EReal :=
  resid (fun j => x (ix2 (flat b t) j)) (fun j => mo (ix3 ⟨1 + b.val, by omega⟩ 0 ⟨2048 + j.val, by omega⟩))
    (fun j => val_main_v39 (F := Ideal) a o u q lg lb W (ix2 (flat b t) j)) (fun j => gp (ix2 0 j)) j

theorem v65_at (b : Fin 8) (t : Fin 2048) (j : Fin 1024) :
    val_main_v65 (F := Ideal) a o u q x mo lg lb W gp (ix3 b t j) = xRef a o u q x mo lg lb W gp b t j := by
  pointwise [val_main_v65, val_main_v64, val_main_v63, val_main_v43, val_main_v40]
  rw [v62_at, v61_at, v60_at]
  rfl

theorem v85_at (b : Fin 8) (t : Fin 2048) (j : Fin 1024) :
    val_main_v85 (F := Ideal) a o u q x mo lg lb W gp gf (ix3 b t j)
      = hrow (xRef a o u q x mo lg lb W gp b t) (fun j => gf (ix2 0 j))
          (fun j => mo (ix3 ⟨1 + b.val, by omega⟩ 0 ⟨4096 + j.val, by omega⟩))
          (fun j => mo (ix3 ⟨1 + b.val, by omega⟩ 0 ⟨3072 + j.val, by omega⟩)) j := by
  pointwise [val_main_v85, val_main_v84, val_main_v83, val_main_v82, val_main_v81, val_main_v80, val_main_v79, val_main_v78,
    val_main_v77, val_main_v76, val_main_v75, val_main_v74, val_main_v73, val_main_v72, val_main_v71, val_main_v70,
    val_main_v69, val_main_v68, val_main_v67, val_main_v66, val_main_v44, val_main_v45, val_main_v40,
    val_main_cst_7, val_main_cst_8, val_main_cst_9, val_main_cst_10]
  simp only [v65_at]
  rfl

theorem v86_at (b : Fin 8) (t : Fin 2048) (j : Fin 1024) :
    val_main_v86 (F := Ideal) a o u q x mo lg lb W gp (ix2 (flat b t) j) = xRef a o u q x mo lg lb W gp b t j := by
  rw [← v65_at, val_main_v86_apply]
  refine congrArg _ ?_
  funext d
  refine Fin.ext ?_
  match d with
  | ⟨0, _⟩ => show ((2048 * b.val + t.val) * 1024 + j.val) / 2097152 = b.val; omega
  | ⟨1, _⟩ => show ((2048 * b.val + t.val) * 1024 + j.val) / 1024 % 2048 = t.val; omega
  | ⟨2, _⟩ => show ((2048 * b.val + t.val) * 1024 + j.val) % 1024 = j.val; omega

theorem v88_at (b : Fin 8) (t : Fin 2048) (j : Fin 1024) :
    val_main_v88 (F := Ideal) a o u q x mo lg lb W gp gf (ix2 (flat b t) j)
      = hrow (xRef a o u q x mo lg lb W gp b t) (fun j => gf (ix2 0 j))
          (fun j => mo (ix3 ⟨1 + b.val, by omega⟩ 0 ⟨4096 + j.val, by omega⟩))
          (fun j => mo (ix3 ⟨1 + b.val, by omega⟩ 0 ⟨3072 + j.val, by omega⟩)) j := by
  rw [← v85_at a o u q x mo lg lb W gp gf, val_main_v88_apply, val_main_v87_apply]
  refine congrArg (val_main_v85 (F := Ideal) a o u q x mo lg lb W gp gf) ?_
  funext d
  refine Fin.ext ?_
  match d with
  | ⟨0, _⟩ => show ((2048 * b.val + t.val) * 1024 + j.val) / 2097152 = b.val; omega
  | ⟨1, _⟩ => show ((2048 * b.val + t.val) * 1024 + j.val) / 1024 % 2048 = t.val; omega
  | ⟨2, _⟩ => show ((2048 * b.val + t.val) * 1024 + j.val) % 1024 = j.val; omega

end Cert.MixRefIdeal.At
-- ==== Proof.Mix.Heads.lean ====
module

public import proofs.«01_k».proof.Proof.Tame
public import proofs.«01_k».proof.Proof.Ctx.Equation
public import proofs.«01_k».proof.Proof.Mix.Ref

/-! Where a row is real, its norm by its columns' shares is each head's own norm: the split row's correction vanishes,
and a row against the matrix that tells the heads apart is the sum over one head's lanes. -/

@[expose] public section

noncomputable section

namespace Cert.MixIdeal.Heads

open Idealize.ShloMosaic
open Cert.Tame Cert.CtxIdeal.Equation Cert.MixIdeal.Block Cert.MixRefIdeal.At

/-- Whether two lanes belong to one head. -/
def seg (k j : Fin 512) : EReal := if k.val / 64 = j.val / 64 then 1 else 0

/-- A row against the matrix that tells the heads apart is the sum over one head's lanes. -/
theorem sum_seg (x : Fin 512 → EReal) (h : Fin 8) (e : Fin 64) :
    ∑ k, x k * seg k ⟨64 * h.val + e.val, by omega⟩ = ∑ i : Fin 64, x ⟨64 * h.val + i.val, by omega⟩ := by
  refine (Equiv.sum_comp (finProdFinEquiv (m := 8) (n := 64))
    (fun k : Fin 512 => x k * seg k ⟨64 * h.val + e.val, by omega⟩)).symm.trans ?_
  rw [Fintype.sum_prod_type]
  refine (Finset.sum_eq_single h (fun d _ hd => Finset.sum_eq_zero fun i _ => ?_)
    (fun hh => absurd (Finset.mem_univ h) hh)).trans (Finset.sum_congr rfl fun i _ => ?_)
  · have : ¬ (i.val + 64 * d.val) / 64 = (64 * h.val + e.val) / 64 := fun hq => hd (Fin.ext (by omega))
    show _ * (if (i.val + 64 * d.val) / 64 = (64 * h.val + e.val) / 64 then (1 : EReal) else 0) = 0
    rw [if_neg this, mul_zero]
  · have : (i.val + 64 * h.val) / 64 = (64 * h.val + e.val) / 64 := by omega
    show _ * (if (i.val + 64 * h.val) / 64 = (64 * h.val + e.val) / 64 then (1 : EReal) else 0) = _
    rw [if_pos this, mul_one]
    exact congrArg x (Fin.ext (Nat.add_comm _ _))

/-- A column's share of a real row is its head's mean. -/
theorem share_head (x : Fin 512 → EReal) (hx : ∀ k, ∃ r : ℝ, x k = (r : EReal)) (h : Fin 8) (e : Fin 64) :
    share x seg ⟨64 * h.val + e.val, by omega⟩ = mean fun i => x ⟨64 * h.val + i.val, by omega⟩ := by
  have h0 : ∑ k, (x k - x k) * seg k ⟨64 * h.val + e.val, by omega⟩ = 0 := Finset.sum_eq_zero fun k _ => by
    obtain ⟨r, hr⟩ := hx k
    rw [hr, coe_sub_self, zero_mul]
  unfold share mean
  rw [h0, add_zero, sum_seg, lit_recip, lit_64, Ideal.div_coe (by norm_num : (64 : ℝ) ≠ 0)]

/-- Every lane is a lane of a head. -/
theorem lane_split (k : Fin 512) : ∃ (h : Fin 8) (e : Fin 64), k = ⟨64 * h.val + e.val, by omega⟩ :=
  ⟨⟨k.val / 64, by omega⟩, ⟨k.val % 64, by omega⟩, Fin.ext (by show k.val = 64 * (k.val / 64) + k.val % 64; omega)⟩

/-- A real head's mean is real. -/
theorem mean_real (z : Fin 64 → EReal) (hz : ∀ i, ∃ r : ℝ, z i = (r : EReal)) : ∃ r : ℝ, mean z = (r : EReal) := by
  choose f hf using hz
  refine ⟨(∑ i, f i) * (1 / 64), ?_⟩
  unfold mean
  rw [lit_64, Ideal.div_coe (by norm_num : (64 : ℝ) ≠ 0), Finset.sum_congr rfl fun i _ => hf i, coe_sum, EReal.coe_mul]

/-- A real row less its columns' shares is each head less its mean, and real. -/
theorem less_head (x : Fin 512 → EReal) (hx : ∀ k, ∃ r : ℝ, x k = (r : EReal)) (h : Fin 8) (e : Fin 64) :
    less x seg ⟨64 * h.val + e.val, by omega⟩
      = x ⟨64 * h.val + e.val, by omega⟩ - mean fun i => x ⟨64 * h.val + i.val, by omega⟩ := by
  unfold less
  rw [share_head x hx]

theorem less_real (x : Fin 512 → EReal) (hx : ∀ k, ∃ r : ℝ, x k = (r : EReal)) (k : Fin 512) :
    ∃ r : ℝ, less x seg k = (r : EReal) := by
  obtain ⟨h, e, rfl⟩ := lane_split k
  obtain ⟨r, hr⟩ := hx ⟨64 * h.val + e.val, by omega⟩
  obtain ⟨q, hq⟩ := mean_real (fun i => x ⟨64 * h.val + i.val, by omega⟩) fun i => hx _
  exact ⟨r - q, by rw [less_head x hx, hr, hq, EReal.coe_sub]⟩

/-- A real row's norm by its columns' shares is each head's own. -/
theorem normed_head (x g b : Fin 512 → EReal) (hx : ∀ k, ∃ r : ℝ, x k = (r : EReal)) (h : Fin 8) (e : Fin 64) :
    normed x seg g b ⟨64 * h.val + e.val, by omega⟩
      = unit (fun i => x ⟨64 * h.val + i.val, by omega⟩) e * g ⟨64 * h.val + e.val, by omega⟩
        + b ⟨64 * h.val + e.val, by omega⟩ := by
  have hsq : ∀ k, ∃ r : ℝ, less x seg k * less x seg k = (r : EReal) := fun k => by
    obtain ⟨r, hr⟩ := less_real x hx k
    exact ⟨r * r, by rw [hr, EReal.coe_mul]⟩
  unfold normed unit
  rw [share_head _ hsq, less_head x hx]
  simp only [less_head x hx]

end Cert.MixIdeal.Heads
-- ==== Proof.Mix.Array.lean ====
module

public import proofs.«01_k».proof.Proof.Mix.Heads
public import Idealize.ShloMosaic.Lib.Claim

/-! What the output projection's call finds in its weights, and what its two result arrays hold. -/

@[expose] public section

set_option maxRecDepth 16384

noncomputable section

namespace Cert.MixIdeal.Array

open Idealize.ShloMosaic Idealize.ShloMosaic.TcCoe Idealize.SL.Sem
open Cert.MixIdeal Cert.MixIdeal.Gen Cert.MixIdeal.Block
open Cert.CtxIdeal.Block (hrow)
open Cert.MixIdeal.Heads (seg)

variable (m : (ℓ : Loc nD τ sig) → Buf (Elt Ideal) ℓ)

abbrev aA (c : Dev nD) : FVec Ideal S16384x512 .f32 := m ((c : Thread nD τ).loc main_arg0)
abbrev aO (c : Dev nD) : FVec Ideal S2x16384x512 .f32 := m ((c : Thread nD τ).loc main_arg1)
abbrev aU (c : Dev nD) : FVec Ideal S16384x512 .f32 := m ((c : Thread nD τ).loc main_arg2)
abbrev aG (c : Dev nD) : FVec Ideal S16384x512 .f32 := m ((c : Thread nD τ).loc main_arg3)
abbrev aX (c : Dev nD) : FVec Ideal S16384x1024 .f32 := m ((c : Thread nD τ).loc main_arg4)
abbrev aM (c : Dev nD) : FVec Ideal S16x1x6144 .f32 := m ((c : Thread nD τ).loc main_arg5)
abbrev aLg (c : Dev nD) : FVec Ideal S1x512 .f32 := m ((c : Thread nD τ).loc main_arg6)
abbrev aLb (c : Dev nD) : FVec Ideal S1x512 .f32 := m ((c : Thread nD τ).loc main_arg7)
abbrev aW (c : Dev nD) : FVec Ideal S1x1024x1024 .f32 := m ((c : Thread nD τ).loc main_arg8)
abbrev aP (c : Dev nD) : FVec Ideal S1x1024 .f32 := m ((c : Thread nD τ).loc main_arg9)
abbrev aQ (c : Dev nD) : FVec Ideal S1x1024 .f32 := m ((c : Thread nD τ).loc main_arg10)

theorem V_lg (c : Dev nD) (k : Fin 512) : V m c main_v9 (ix2 0 k) = aLg m c (ix2 0 k) := by
  simp only [V, hostOps0, hostOps0_1, hostOps0_2, List.flatten_cons, List.flatten_nil, List.append_nil,
    List.cons_append, List.nil_append]
  entry_read
  pointwise

theorem V_lb (c : Dev nD) (k : Fin 512) : V m c main_v11 (ix2 0 k) = aLb m c (ix2 0 k) := by
  simp only [V, hostOps0, hostOps0_1, hostOps0_2, List.flatten_cons, List.flatten_nil, List.append_nil,
    List.cons_append, List.nil_append]
  entry_read
  pointwise

theorem V_w (c : Dev nD) (k j : Fin 1024) : V m c main_v13 (ix2 k j) = aW m c (ix3 0 k j) := by
  simp only [V, hostOps0, hostOps0_1, hostOps0_2, List.flatten_cons, List.flatten_nil, List.append_nil,
    List.cons_append, List.nil_append]
  entry_read
  pointwise

theorem V_p (c : Dev nD) (k : Fin 1024) : V m c main_v15 (ix2 0 k) = aP m c (ix2 0 k) := by
  simp only [V, hostOps0, hostOps0_1, hostOps0_2, List.flatten_cons, List.flatten_nil, List.append_nil,
    List.cons_append, List.nil_append]
  entry_read
  pointwise

theorem V_q (c : Dev nD) (k : Fin 1024) : V m c main_v17 (ix2 0 k) = aQ m c (ix2 0 k) := by
  simp only [V, hostOps0, hostOps0_1, hostOps0_2, List.flatten_cons, List.flatten_nil, List.append_nil,
    List.cons_append, List.nil_append]
  entry_read
  pointwise

/-- The quotient by 64, rounded down, of each lane's number. -/
theorem quot : ∀ k : Fin 512, Scalar.select
    (IntOp.andi
      (IntOp.cmpi CmpIPredicate.ne
        (if BitVec.ofNat 32 k.val = 0 then (0 : BitVec 32) else if (BitVec.ofNat 32 k.val).msb = true then -1 else 1)
        (if 64#32 = 0 then (0 : BitVec 32) else if (64#32).msb = true then -1 else 1))
      (IntOp.cmpi CmpIPredicate.ne (IntOp.remsi ArithUnit.host (BitVec.ofNat 32 k.val) 64#32) 0#32))
    (IntOp.subi (IntOp.divsi ArithUnit.host (BitVec.ofNat 32 k.val) 64#32) 1#32)
    (IntOp.divsi ArithUnit.host (BitVec.ofNat 32 k.val) 64#32) = BitVec.ofNat 32 (k.val / 64) := by
  decide +kernel

/-- The truth of an equation of two heads, as a number. -/
theorem same (a b : Fin 8) : FloatOps.uitofp (F := Ideal) FTy.bf16
    (IntOp.cmpi CmpIPredicate.eq (BitVec.ofNat 32 a.val) (BitVec.ofNat 32 b.val)) = if a.val = b.val then (1 : EReal) else 0 := by
  have h : IntOp.cmpi CmpIPredicate.eq (BitVec.ofNat 32 a.val) (BitVec.ofNat 32 b.val) = if a.val = b.val then 1#1 else 0#1 := by
    revert a b
    decide
  rw [h]
  by_cases hab : a.val = b.val
  · rw [if_pos hab, if_pos hab]
    show (((1#1 : BitVec 1).toNat : ℝ) : EReal) = 1
    simp
  · rw [if_neg hab, if_neg hab]
    show (((0#1 : BitVec 1).toNat : ℝ) : EReal) = 0
    simp

/-- The matrix that adds up a head's lanes. -/
theorem V_seg (c : Dev nD) (k j : Fin 512) : V m c main_v7 (ix2 k j) = if k.val / 64 = j.val / 64 then (1 : EReal) else 0 := by
  simp only [V, hostOps0, hostOps0_1, hostOps0_2, List.flatten_cons, List.flatten_nil, List.append_nil,
    List.cons_append, List.nil_append]
  entry_read
  simp only [StableHlo.TRef.toBuf, StableHlo.TRef.ofBuf, cast_cast, cast_eq]
  pointwise
  exact Eq.trans (congrArg₂ (fun a b => FloatOps.uitofp (F := Ideal) FTy.bf16 (IntOp.cmpi CmpIPredicate.eq a b)) (quot k) (quot j))
    (same ⟨k.val / 64, by omega⟩ ⟨j.val / 64, by omega⟩)

/-- The windows' block indices at grid point `t`: row block `t`, and sequence `t / 4`'s modulation. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![1 + t.val / 4, 0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_14.index t = ![t.val, 0] ∧ win0_15.index t = ![t.val, 0] :=
  (by decide +kernel : ∀ t : Fin grid0.N, _)

/-- The blocks a grid point reads. -/
abbrev bA (c : Dev nD) (t : Fin cfg0.N) : FVec Ideal S512x512 .f32 := iblk m c 0 t
abbrev bO (c : Dev nD) (t : Fin cfg0.N) : FVec Ideal S2x512x512 .f32 := iblk m c 1 t
abbrev bU (c : Dev nD) (t : Fin cfg0.N) : FVec Ideal S512x512 .f32 := iblk m c 2 t
abbrev bG (c : Dev nD) (t : Fin cfg0.N) : FVec Ideal S512x512 .f32 := iblk m c 3 t
abbrev bX (c : Dev nD) (t : Fin cfg0.N) : FVec Ideal S512x1024 .f32 := iblk m c 4 t
abbrev bM (c : Dev nD) (t : Fin cfg0.N) : FVec Ideal S1x1x6144 .f32 := iblk m c 5 t
abbrev bLg (c : Dev nD) (t : Fin cfg0.N) : FVec Ideal S1x512 .f32 := iblk m c 6 t
abbrev bLb (c : Dev nD) (t : Fin cfg0.N) : FVec Ideal S1x512 .f32 := iblk m c 7 t
abbrev bS (c : Dev nD) (t : Fin cfg0.N) : FVec Ideal S512x512 .bf16 := iblk m c 8 t
abbrev bW (c : Dev nD) (t : Fin cfg0.N) : FVec Ideal S1024x1024 .bf16 := iblk m c 9 t
abbrev bP (c : Dev nD) (t : Fin cfg0.N) : FVec Ideal S1x1024 .f32 := iblk m c 10 t
abbrev bQ (c : Dev nD) (t : Fin cfg0.N) : FVec Ideal S1x1024 .f32 := iblk m c 11 t

/-- The sequence of a row, and its modulation's row. -/
def modRow (n : Fin 16384) : Fin 16 := ⟨1 + n.val / 2048, by omega⟩

/-- A row of the recurrence, normed and gated. -/
def gated (c : Dev nD) (n : Fin 16384) (k : Fin 512) : EReal :=
  (normed (fun k => aO m c (ix3 0 n k) + aO m c (ix3 1 n k)) seg (fun k => aLg m c (ix2 0 k)) (fun k => aLb m c (ix2 0 k)) k
    + aU m c (ix2 n k)) * aG m c (ix2 n k)

/-- A row of the new residual. -/
def xRow (c : Dev nD) (n : Fin 16384) (j : Fin 1024) : EReal :=
  resid (fun j => aX m c (ix2 n j)) (fun j => aM m c (ix3 (modRow n) 0 ⟨2048 + j.val, by omega⟩))
    (halves (fun k => aA m c (ix2 n k)) (gated m c n) (fun k j => aW m c (ix3 0 ⟨k.val, by omega⟩ j))
      (fun k j => aW m c (ix3 0 ⟨512 + k.val, by omega⟩ j))) (fun j => aP m c (ix2 0 j)) j

/-- The two result arrays. -/
def xArr (c : Dev nD) : FVec Ideal S16384x1024 .f32 := fun i => xRow m c (i 0) (i 1)
def hArr (c : Dev nD) : FVec Ideal S16384x1024 .bf16 := fun i =>
  hrow (xRow m c (i 0)) (fun j => aQ m c (ix2 0 j)) (fun j => aM m c (ix3 (modRow (i 0)) 0 ⟨4096 + j.val, by omega⟩))
    (fun j => aM m c (ix3 (modRow (i 0)) 0 ⟨3072 + j.val, by omega⟩)) (i 1)

/-- The halves of a block of the recurrence's two outputs, and of the weights. -/
abbrev oLo (c : Dev nD) (t : Fin cfg0.N) : FVec Ideal S1x512x512 .f32 := View.ld (Val := Elt Ideal) (e' := .f32) (bO m c t) r0_1
abbrev oHi (c : Dev nD) (t : Fin cfg0.N) : FVec Ideal S1x512x512 .f32 := View.ld (Val := Elt Ideal) (e' := .f32) (bO m c t) r0_2
abbrev wLo (c : Dev nD) (t : Fin cfg0.N) : FVec Ideal S512x1024 .bf16 := View.ld (Val := Elt Ideal) (e' := .bf16) (bW m c t) r0_4
abbrev wHi (c : Dev nD) (t : Fin cfg0.N) : FVec Ideal S512x1024 .bf16 := View.ld (Val := Elt Ideal) (e' := .bf16) (bW m c t) r0_5

/-- The new residual a grid point computes. -/
abbrev xPay (c : Dev nD) (t : Fin cfg0.N) : FVec Ideal S512x1024 .f32 :=
  k0_pay6 (F := Ideal) (k0_pay2 (F := Ideal) (bS m c t) (oLo m c t) (oHi m c t)
      (bLg m c t) (bLb m c t)) (bU m c t) (bG m c t)
    (bA m c t) (wLo m c t) (wHi m c t) (bM m c t)
    (bX m c t) (bP m c t)

theorem mod_eq (c : Dev nD) (t : Fin cfg0.N) (r : Fin 512) (n : Fin 16384) (hn : n.val = 512 * t.val + r.val) (j : Fin 6144) :
    bM m c t (ix3 0 0 j) = aM m c (ix3 (modRow n) 0 j) := by
  have hN : t.val < 32 := lt_of_lt_of_eq t.isLt (show cfg0.N = 32 from N_0)
  unfold modRow
  blk_ext [bM, iblk, V, idx t]

theorem s_at (c : Dev nD) (t : Fin cfg0.N) (k j : Fin 512) : bS m c t (ix2 k j) = seg k j :=
  Eq.trans (b := V m c main_v7 (ix2 k j)) (by blk_ext [bS, iblk, idx t]) (V_seg m c k j)

theorem lg_at (c : Dev nD) (t : Fin cfg0.N) (k : Fin 512) : bLg m c t (ix2 0 k) = aLg m c (ix2 0 k) :=
  Eq.trans (b := V m c main_v9 (ix2 0 k)) (by blk_ext [bLg, iblk, idx t]) (V_lg m c k)

theorem lb_at (c : Dev nD) (t : Fin cfg0.N) (k : Fin 512) : bLb m c t (ix2 0 k) = aLb m c (ix2 0 k) :=
  Eq.trans (b := V m c main_v11 (ix2 0 k)) (by blk_ext [bLb, iblk, idx t]) (V_lb m c k)

theorem p_at (c : Dev nD) (t : Fin cfg0.N) (j : Fin 1024) : bP m c t (ix2 0 j) = aP m c (ix2 0 j) :=
  Eq.trans (b := V m c main_v15 (ix2 0 j)) (by blk_ext [bP, iblk, idx t]) (V_p m c j)

theorem q_at (c : Dev nD) (t : Fin cfg0.N) (j : Fin 1024) : bQ m c t (ix2 0 j) = aQ m c (ix2 0 j) :=
  Eq.trans (b := V m c main_v17 (ix2 0 j)) (by blk_ext [bQ, iblk, idx t]) (V_q m c j)

theorem w_at (c : Dev nD) (t : Fin cfg0.N) (k j : Fin 1024) : bW m c t (ix2 k j) = aW m c (ix3 0 k j) :=
  Eq.trans (b := V m c main_v13 (ix2 k j)) (by blk_ext [bW, iblk, idx t]) (V_w m c k j)

theorem wLo_at (c : Dev nD) (t : Fin cfg0.N) (k : Fin 512) (j : Fin 1024) :
    wLo m c t (ix2 k j) = aW m c (ix3 0 ⟨k.val, by omega⟩ j) := by
  rw [← w_at m c t]
  unfold wLo
  generalize bW m c t = y
  pointwise
  blk_ext []

theorem wHi_at (c : Dev nD) (t : Fin cfg0.N) (k : Fin 512) (j : Fin 1024) :
    wHi m c t (ix2 k j) = aW m c (ix3 0 ⟨512 + k.val, by omega⟩ j) := by
  rw [← w_at m c t]
  unfold wHi
  generalize bW m c t = y
  pointwise
  blk_ext []

theorem oLo_at (c : Dev nD) (t : Fin cfg0.N) (r k : Fin 512) : oLo m c t (ix3 0 r k) = bO m c t (ix3 0 r k) := by
  unfold oLo
  generalize bO m c t = y
  pointwise
  blk_ext []

theorem oHi_at (c : Dev nD) (t : Fin cfg0.N) (r k : Fin 512) : oHi m c t (ix3 0 r k) = bO m c t (ix3 1 r k) := by
  unfold oHi
  generalize bO m c t = y
  pointwise
  blk_ext []

variable {m} in
theorem o_at (c : Dev nD) (t : Fin cfg0.N) (r : Fin 512) (n : Fin 16384) (hn : n.val = 512 * t.val + r.val) (s : Fin 2)
    (k : Fin 512) : bO m c t (ix3 s r k) = aO m c (ix3 s n k) := by
  blk_ext [bO, iblk, V, idx t]

variable {m} in
theorem u_at (c : Dev nD) (t : Fin cfg0.N) (r : Fin 512) (n : Fin 16384) (hn : n.val = 512 * t.val + r.val) (k : Fin 512) :
    bU m c t (ix2 r k) = aU m c (ix2 n k) := by
  blk_ext [bU, iblk, V, idx t]

variable {m} in
theorem g_at (c : Dev nD) (t : Fin cfg0.N) (r : Fin 512) (n : Fin 16384) (hn : n.val = 512 * t.val + r.val) (k : Fin 512) :
    bG m c t (ix2 r k) = aG m c (ix2 n k) := by
  blk_ext [bG, iblk, V, idx t]

variable {m} in
theorem a_at (c : Dev nD) (t : Fin cfg0.N) (r : Fin 512) (n : Fin 16384) (hn : n.val = 512 * t.val + r.val) (k : Fin 512) :
    bA m c t (ix2 r k) = aA m c (ix2 n k) := by
  blk_ext [bA, iblk, V, idx t]

variable {m} in
theorem x_at (c : Dev nD) (t : Fin cfg0.N) (r : Fin 512) (n : Fin 16384) (hn : n.val = 512 * t.val + r.val) (k : Fin 1024) :
    bX m c t (ix2 r k) = aX m c (ix2 n k) := by
  blk_ext [bX, iblk, V, idx t]

variable {m} in
/-- One lane of a block's row, normed and gated. -/
theorem gated_at (c : Dev nD) (t : Fin cfg0.N) (r : Fin 512) (n : Fin 16384) (hn : n.val = 512 * t.val + r.val) (k : Fin 512) :
    (k0_pay2 (F := Ideal) (bS m c t) (oLo m c t) (oHi m c t) (bLg m c t) (bLb m c t) (ix2 r k) + bU m c t (ix2 r k))
      * bG m c t (ix2 r k) = gated m c n k := by
  rw [pay2_at, u_at c t r n hn, g_at c t r n hn]
  unfold gated
  refine congrArg (fun z : EReal => (z + aU m c (ix2 n k)) * aG m c (ix2 n k)) ?_
  exact congrFun (congr (congr (congrArg₂ normed
    (funext fun k => congrArg₂ (fun a b : EReal => a + b) ((oLo_at m c t r k).trans (o_at c t r n hn 0 k))
      ((oHi_at m c t r k).trans (o_at c t r n hn 1 k)))
    (funext fun k => funext fun j => s_at m c t k j)) (funext fun k => lg_at m c t k)) (funext fun k => lb_at m c t k)) k

theorem xPay_at (c : Dev nD) (t : Fin cfg0.N) (r : Fin 512) (j : Fin 1024) (n : Fin 16384) (hn : n.val = 512 * t.val + r.val) :
    xPay m c t (ix2 r j) = xRow m c n j := by
  unfold xPay xRow
  rw [pay6_at]
  exact congrFun (congr (congr (congrArg₂ resid (funext fun j => x_at c t r n hn j)
    (funext fun j => mod_eq m c t r n hn _))
    (funext fun j => congrFun (congr (congr (congrArg₂ halves (funext fun k => a_at c t r n hn k)
      (funext fun k => gated_at c t r n hn k)) (funext fun k => funext fun j => wLo_at m c t k j))
      (funext fun k => funext fun j => wHi_at m c t k j)) j)) (funext fun j => p_at m c t j)) j

theorem x_final (c : Dev nD) : (dats m 0 c).arrAt 14 cfg0.N = xArr m c := by
  refine (dats m 0 c).arrAt_eq_of_covers 14 _ (by decide +kernel) fun t hf y => ?_
  blk_simp
  rw [after0_14]
  unfold_out out0_14
  have hN : t.val < 32 := lt_of_lt_of_eq t.isLt (show cfg0.N = 32 from N_0)
  idx_vars y
  frame_out
  show xPay m c t (ix2 y0 y1) = _
  rw [xPay_at m c t y0 y1 ⟨512 * t.val + y0.val, by omega⟩ rfl]
  show xArr m c (ix2 ⟨512 * t.val + y0.val, by omega⟩ y1) = _
  blk_ext [idx t]

theorem h_final (c : Dev nD) : (dats m 0 c).arrAt 15 cfg0.N = hArr m c := by
  refine (dats m 0 c).arrAt_eq_of_covers 15 _ (by decide +kernel) fun t hf y => ?_
  blk_simp
  rw [after0_15]
  unfold_out out0_15
  have hN : t.val < 32 := lt_of_lt_of_eq t.isLt (show cfg0.N = 32 from N_0)
  idx_vars y
  frame_out
  show k0_pay8 (F := Ideal) (k0_pay4 (bM m c t)) (k0_pay5 (bM m c t)) (xPay m c t)
    (bQ m c t) (ix2 y0 y1) = _
  rw [pay8_at]
  simp only [q_at m c t, mod_eq m c t y0 ⟨512 * t.val + y0.val, by omega⟩ rfl,
    fun j => xPay_at m c t y0 j ⟨512 * t.val + y0.val, by omega⟩ rfl]
  show hArr m c (ix2 ⟨512 * t.val + y0.val, by omega⟩ y1) = _
  blk_ext [idx t]

end Cert.MixIdeal.Array
-- ==== Proof.Mix.Equation.lean ====
module

public import proofs.«01_k».proof.Proof.Gen.Pre_mix_tame
public import proofs.«01_k».proof.Proof.Mix.Array

/-! The output projection's two results are the reference's, where the recurrence's outputs are finite. -/

@[expose] public section

set_option maxRecDepth 16384

noncomputable section

namespace Cert.MixIdeal.Equation

open Idealize.ShloMosaic Idealize.ShloMosaic.TcCoe Idealize.SL.Sem
open Cert.Tame Cert.MixIdeal Cert.MixIdeal.Gen Cert.MixIdeal.Block Cert.MixIdeal.Array Cert.MixIdeal.Heads
open Cert.CtxIdeal.Block (hrow)
open Cert.MixRefIdeal.At (head unit flat xRef v36_at v39_at v86_at v88_at)
open Cert.MixRefIdeal.Read (val_main_v36 val_main_v39 val_main_v86 val_main_v88)

/-- What the precondition says: the recurrence's two outputs are real. -/
theorem real_of_pre (x0 : FVec Ideal S16384x512 .f32) (o : FVec Ideal S2x16384x512 .f32) (x2 x3 : FVec Ideal S16384x512 .f32)
    (x4 : FVec Ideal S16384x1024 .f32) (x5 : FVec Ideal S16x1x6144 .f32) (x6 x7 : FVec Ideal S1x512 .f32)
    (x8 : FVec Ideal S1x1024x1024 .f32) (x9 x10 : FVec Ideal S1x1024 .f32) (x11 : FVec Ideal S1x1024x64 .f32)
    (x12 : FVec Ideal S1x64 .f32)
    (h : Cert.Pre_mix_tame.fn x0 o x2 x3 x4 x5 x6 x7 x8 x9 x10 x11 x12 = fun _ => 1#1) (s : Fin 2) (n : Fin 16384) (k : Fin 512) :
    ∃ r : ℝ, o (ix3 s n k) = (r : EReal) := by
  have h' := congrFun h (ix3 s n k)
  revert h'
  pointwise [Cert.Pre_mix_tame.fn]
  intro h'
  exact real_of_abs _ (lt_of_lt_of_eq (of_bit h') ofBits_inf)

variable (m : (ℓ : Loc nD τ sig) → Buf (Elt Ideal) ℓ)

/-- The recurrence's two outputs are real. -/
def Tame (c : Dev nD) : Prop := ∀ s n k, ∃ r : ℝ, aO m c (ix3 s n k) = (r : EReal)

variable {m}

/-- One lane of a row, normed and gated, is the reference's. -/
theorem gated_eq (c : Dev nD) (ht : Tame m c) (n : Fin 16384) (k : Fin 512) :
    gated m c n k = val_main_v36 (F := Ideal) (aO m c) (aU m c) (aG m c) (aLg m c) (aLb m c) (ix2 n k) := by
  obtain ⟨h, e, rfl⟩ := lane_split k
  rw [v36_at]
  unfold gated
  rw [normed_head _ _ _ fun k => ?_]
  · rfl
  · obtain ⟨r, hr⟩ := ht 0 n k
    obtain ⟨q, hq⟩ := ht 1 n k
    exact ⟨r + q, by rw [hr, hq, EReal.coe_add]⟩

/-- A row's new residual is the reference's. -/
theorem xRow_eq (c : Dev nD) (ht : Tame m c) (b : Fin 8) (t : Fin 2048) (j : Fin 1024) : xRow m c (flat b t) j
    = xRef (aA m c) (aO m c) (aU m c) (aG m c) (aX m c) (aM m c) (aLg m c) (aLb m c) (aW m c) (aP m c) b t j := by
  have hm : modRow (flat b t) = ⟨1 + b.val, by omega⟩ :=
    Fin.ext (by show 1 + (2048 * b.val + t.val) / 2048 = 1 + b.val; omega)
  unfold xRow xRef
  rw [hm]
  refine congrFun (congrArg (fun y => resid _ _ y _) (funext fun j => ?_)) j
  rw [v39_at]
  exact congrFun (congrArg (fun w => halves _ w _ _) (funext fun k => gated_eq c ht (flat b t) k)) j

/-- A row is a place of a sequence. -/
theorem flat_split (n : Fin 16384) : ∃ (b : Fin 8) (t : Fin 2048), n = flat b t :=
  ⟨⟨n.val / 2048, by omega⟩, ⟨n.val % 2048, by omega⟩,
    Fin.ext (by show n.val = 2048 * (n.val / 2048) + n.val % 2048; omega)⟩

theorem x_eq (c : Dev nD) (ht : Tame m c) : xArr m c
    = val_main_v86 (F := Ideal) (aA m c) (aO m c) (aU m c) (aG m c) (aX m c) (aM m c) (aLg m c) (aLb m c) (aW m c) (aP m c) := by
  funext i
  obtain ⟨n, j, rfl⟩ : ∃ (n : Fin 16384) (j : Fin 1024), i = ix2 n j := ⟨i 0, i 1, eq_ix2 i⟩
  obtain ⟨b, t, rfl⟩ := flat_split n
  rw [v86_at]
  exact xRow_eq c ht b t j

theorem h_eq (c : Dev nD) (ht : Tame m c) : hArr m c
    = val_main_v88 (F := Ideal) (aA m c) (aO m c) (aU m c) (aG m c) (aX m c) (aM m c) (aLg m c) (aLb m c) (aW m c) (aP m c)
        (aQ m c) := by
  funext i
  obtain ⟨n, j, rfl⟩ : ∃ (n : Fin 16384) (j : Fin 1024), i = ix2 n j := ⟨i 0, i 1, eq_ix2 i⟩
  obtain ⟨b, t, rfl⟩ := flat_split n
  have hm : modRow (flat b t) = ⟨1 + b.val, by omega⟩ :=
    Fin.ext (by show 1 + (2048 * b.val + t.val) / 2048 = 1 + b.val; omega)
  rw [v88_at]
  show hrow (xRow m c (flat b t)) (fun j => aQ m c (ix2 0 j))
    (fun j => aM m c (ix3 (modRow (flat b t)) 0 ⟨4096 + j.val, by omega⟩))
    (fun j => aM m c (ix3 (modRow (flat b t)) 0 ⟨3072 + j.val, by omega⟩)) j = _
  rw [hm, funext (xRow_eq c ht b t)]

end Cert.MixIdeal.Equation
-- ==== Proof.lean ====
/- The claims about the expert call, the attention call, the prompt's modulation and projection and the output projection's
   call: the frames of the kernels, of their ideal readings and of the references, and that the ideal kernels' results are their references'. -/
module

public import proofs.«01_k».proof.Defs
public import proofs.«01_k».proof.Proof.Gen.Moe.Frame
public import proofs.«01_k».proof.Proof.Gen.MoeIdeal.Frame
public import proofs.«01_k».proof.Proof.Gen.MoeIdeal.Value
public import proofs.«01_k».proof.Proof.Gen.MoeRefIdeal.Run
public import proofs.«01_k».proof.Proof.Gen.MoeRefIdeal.Read
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.CtxIdeal.Frame
public import proofs.«01_k».proof.Proof.Gen.Ctx.Frame
public import proofs.«01_k».proof.Proof.Gen.CtxRefIdeal.Run
public import proofs.«01_k».proof.Proof.Gen.CtxRefIdeal.Read
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import proofs.«01_k».proof.Proof.Gen.Pre_mix_tame
public import proofs.«01_k».proof.Proof.Gen.Pre_ctx_tame
public import proofs.«01_k».proof.Proof.Gen.Pre_gates_tame
public import proofs.«01_k».proof.Proof.Gen.Pre_heads_tame
public import proofs.«01_k».proof.Proof.Moe.Final
public import proofs.«01_k».proof.Proof.Moe.Equation
public import proofs.«01_k».proof.Proof.Attn.Equation
public import proofs.«01_k».proof.Proof.Ctx.Run
public import proofs.«01_k».proof.Proof.Ctx.Equation
public import proofs.«01_k».proof.Proof.Ctx.HeadEquation
public import proofs.«01_k».proof.Proof.Mix.Run
public import proofs.«01_k».proof.Proof.Mix.Equation
public import Idealize.ShloMosaic.Adequacy
public import Idealize.ShloMosaic.Init
public import Idealize.ShloMosaic.Lib.Quiescent

@[expose] public section

noncomputable section

namespace Cert.Proof

open Idealize.ShloMosaic Idealize.SL.Sem

/-- The expert reference runs and leaves its arguments alone. -/
theorem moe_ref_frame : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- The attention reference runs and leaves its arguments alone. -/
theorem attn_ref_frame : quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The ideal expert kernel's result is the reference's. -/
theorem moe_value : algebraic_MoeIdeal_MoeRefIdeal_pre_gates_tame := by
  intro m ρ m' ρ' hpre hagree
  refine ⟨_, Cert.MoeIdeal.Value.run (F := Ideal) m ρ, ?_⟩
  refine (θ_run Cert.MoeRefIdeal.defs _ _).mono (fun _ h c => ⟨?_, (h c).2⟩) (Cert.MoeRefIdeal.Value.run (F := Ideal) m' ρ')
  rw [(h c).1, Cert.MoeRefIdeal.Read.val_main_v52_eq]
  obtain ⟨h0, h1, h2, h3, h4, h5, h6, h7, h8, h9, h10⟩ := hagree c
  rw [h0, h1, h2, h3, h4, h5, h6, h7, h8, h9, h10]
  refine Eq.trans ?_ (Cert.MoeIdeal.Final.G_eq m c).symm
  funext i
  obtain ⟨n, d, rfl⟩ : ∃ (n : Fin 16384) (d : Fin 1024), i = ix2 n d := ⟨i 0, i 1, eq_ix2 i⟩
  exact (Cert.MoeRefIdeal.At.out_eq _ _ _ _ _ _ _ _ _ _ _ (hpre c) n d).symm

/-- The ideal attention kernel's result is the reference's, where queries, keys and cached keys are finite and the upper
lanes of queries and values are zero. -/
theorem attn_value : algebraic_AttnIdeal_AttnRefIdeal_pre_heads_tame := by
  intro m ρ m' ρ' hpre hagree
  refine ⟨_, Cert.AttnIdeal.Value.run_blocks (F := Ideal) m ρ, ?_⟩
  refine (θ_run Cert.AttnRefIdeal.defs _ _).mono (fun _ h c => ⟨?_, (h c).2⟩) (Cert.AttnRefIdeal.Value.run (F := Ideal) m' ρ')
  rw [(h c).1, Cert.AttnRefIdeal.Read.val_main_v29_eq]
  obtain ⟨h0, h1, h2, h3, h4⟩ := hagree c
  rw [h0, h1, h2, h3, h4]
  refine Eq.trans ?_ (Cert.AttnIdeal.Array.final m c).symm
  funext i
  exact (Cert.AttnIdeal.Equation.arr_eq _ _ _ _ _ (hpre c) i).symm

/-- The context reference runs and leaves its arguments alone. -/
theorem ctx_ref_frame : quiescent_CtxRefIdeal := fun m ρ _ =>
  (θ_run Cert.CtxRefIdeal.defs _ _).mono (fun r h => ⟨fun c => (h c).2.2.2.2.2.2, sem_eq_zero_of_no_sems (by decide) r.2⟩)
    (Cert.CtxRefIdeal.Value.run (F := Ideal) m ρ)

set_option maxHeartbeats 2000000 in
/-- The context program's queries, keys, values and recurrence inputs are the reference's, where the conditioning row and the
modulation's weights are finite. -/
theorem ctx_value : algebraic_CtxIdeal_CtxRefIdeal_pre_ctx_tame := by
  intro m ρ m' ρ' hpre hagree
  refine ⟨_, _, _, _, _, _, Cert.CtxIdeal.Run.run (F := Ideal) m ρ, ?_⟩
  refine (θ_run Cert.CtxRefIdeal.defs _ _).mono (fun _ h c => ?_) (Cert.CtxRefIdeal.Value.run (F := Ideal) m' ρ')
  obtain ⟨hq, hk, hv, hkp, hvp, hr, hargs⟩ := h c
  obtain ⟨h0, h1, h2, h3, h4, h5, h6, h7, h8⟩ := hagree c
  have ht : Cert.CtxIdeal.Equation.Tame m c :=
    ⟨fun k => (Cert.CtxIdeal.Equation.real_of_pre _ _ _ _ _ _ _ _ _ (hpre c) k 0).1,
      fun k j => (Cert.CtxIdeal.Equation.real_of_pre _ _ _ _ _ _ _ _ _ (hpre c) k j).2⟩
  refine ⟨?_, ?_, ?_, ?_, ?_, ?_, hargs⟩
  · rw [hq, Cert.CtxRefIdeal.Read.val_main_v78_eq, h1, h2, h3, h4, h5, h6, h7]
    refine Eq.trans ?_ (Cert.CtxIdeal.Heads.q_final _ c).symm
    funext i
    obtain ⟨n, q, e, rfl⟩ : ∃ (n : Fin 4096) (q : Fin 8) (e : Fin 128), i = ix2 n ⟨128 * q.val + e.val, by omega⟩ :=
      Cert.CtxIdeal.Equation.split_heads 4096 8 i
    exact (Cert.CtxRefIdeal.At.v78_at _ _ _ _ _ _ _ n q e).trans (Cert.CtxIdeal.Equation.q_eq ρ c ht n q e).symm
  · rw [hk, Cert.CtxRefIdeal.Read.val_main_v47_eq, h1, h2, h3, h4, h5, h6, h8]
    refine Eq.trans ?_ (Cert.CtxIdeal.Array.key_final _ c).symm
    funext i
    obtain ⟨n, q, e, rfl⟩ : ∃ (n : Fin 4096) (q : Fin 2) (e : Fin 64), i = ix2 n ⟨64 * q.val + e.val, by omega⟩ :=
      Cert.CtxIdeal.Equation.split i
    exact (Cert.CtxRefIdeal.At.v47_at _ _ _ _ _ _ _ n q e).trans (Cert.CtxIdeal.Equation.key_eq ρ c ht n q e).symm
  · refine (hv.trans (Cert.CtxRefIdeal.Read.val_main_v49_eq _ _ _ _ _ _)).trans ?_
    rw [h1, h2, h3, h4, h5, h6]
    refine Eq.trans ?_ (Cert.CtxIdeal.Array.val_final _ c).symm
    funext i
    obtain ⟨n, q, e, rfl⟩ : ∃ (n : Fin 4096) (q : Fin 2) (e : Fin 64), i = ix2 n ⟨64 * q.val + e.val, by omega⟩ :=
      Cert.CtxIdeal.Equation.split i
    exact (Cert.CtxRefIdeal.At.v49_at _ _ _ _ _ _ n _).trans (Cert.CtxIdeal.Equation.val_eq ρ c ht n q e).symm
  · rw [hkp, Cert.CtxRefIdeal.Read.val_main_v79_eq, h1, h2, h3, h4, h5, h6, h8]
    refine Eq.trans ?_ (Cert.CtxIdeal.Heads.k_final _ c).symm
    funext i
    obtain ⟨n, q, e, rfl⟩ : ∃ (n : Fin 4096) (q : Fin 2) (e : Fin 128), i = ix2 n ⟨128 * q.val + e.val, by omega⟩ :=
      Cert.CtxIdeal.Equation.split_heads 4096 2 i
    exact (Cert.CtxRefIdeal.At.v79_at _ _ _ _ _ _ _ n q e).trans (Cert.CtxIdeal.Equation.k_eq ρ c ht n q e).symm
  · refine (hvp.trans (Cert.CtxRefIdeal.Read.val_main_v80_eq _ _ _ _ _ _)).trans ?_
    rw [h1, h2, h3, h4, h5, h6]
    refine Eq.trans ?_ (Cert.CtxIdeal.Heads.v_final _ c).symm
    funext i
    obtain ⟨n, q, e, rfl⟩ : ∃ (n : Fin 4096) (q : Fin 2) (e : Fin 128), i = ix2 n ⟨128 * q.val + e.val, by omega⟩ :=
      Cert.CtxIdeal.Equation.split_heads 4096 2 i
    exact (Cert.CtxRefIdeal.At.v80_at _ _ _ _ _ _ n q e).trans (Cert.CtxIdeal.Equation.v_eq ρ c ht n q e).symm
  · refine (hr.trans (Cert.CtxRefIdeal.Read.val_main_v51_eq _ _ _ _ _ _)).trans ?_
    rw [h1, h2, h3, h4, h5, h6]
    refine Eq.trans ?_ (Cert.CtxIdeal.Array.rest_final _ c).symm
    funext i
    obtain ⟨n, j, rfl⟩ : ∃ (n : Fin 4096) (j : Fin 1920), i = ix2 n j := ⟨i 0, i 1, eq_ix2 i⟩
    exact (Cert.CtxRefIdeal.At.v51_at _ _ _ _ _ _ n j).trans (Cert.CtxIdeal.Equation.rest_eq ρ c ht n j).symm

/-- The output projection's reference runs and leaves its arguments alone. -/
theorem mix_ref_frame : quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

/-- The ideal output projection's new residual and its modulated norm are the reference's, where the recurrence's outputs
are finite. -/
theorem mix_value : algebraic_MixIdeal_MixRefIdeal_pre_mix_tame := by
  intro m ρ m' ρ' hpre hagree
  refine ⟨_, _, Cert.MixIdeal.Run.run (F := Ideal) m ρ, ?_⟩
  refine (θ_run Cert.MixRefIdeal.defs _ _).mono (fun _ h c => ?_) (Cert.MixRefIdeal.Value.run (F := Ideal) m' ρ')
  obtain ⟨hx, hh, hargs⟩ := h c
  obtain ⟨h0, h1, h2, h3, h4, h5, h6, h7, h8, h9, h10, h11, h12⟩ := hagree c
  have ht : Cert.MixIdeal.Equation.Tame m c := Cert.MixIdeal.Equation.real_of_pre _ _ _ _ _ _ _ _ _ _ _ _ _ (hpre c)
  refine ⟨?_, ?_, hargs⟩
  · rw [hx, Cert.MixRefIdeal.Read.val_main_v86_eq, h0, h1, h2, h3, h4, h5, h6, h7, h8, h9]
    exact (Cert.MixIdeal.Equation.x_eq c ht).symm.trans (Cert.MixIdeal.Array.x_final m c).symm
  · rw [hh, Cert.MixRefIdeal.Read.val_main_v88_eq, h0, h1, h2, h3, h4, h5, h6, h7, h8, h9, h10]
    exact (Cert.MixIdeal.Equation.h_eq c ht).symm.trans (Cert.MixIdeal.Array.h_final m c).symm

theorem claim : Cert.Claim :=
  ⟨Cert.Moe.Gen.facts, Cert.MoeIdeal.Gen.facts, Cert.MoeRefIdeal.Gen.facts,
    Cert.Attn.Gen.facts, Cert.AttnIdeal.Gen.facts, Cert.AttnRefIdeal.Gen.facts,
    Cert.Ctx.Gen.facts, Cert.CtxIdeal.Gen.facts, Cert.CtxRefIdeal.Gen.facts,
    Cert.Mix.Gen.facts, Cert.MixIdeal.Gen.facts, Cert.MixRefIdeal.Gen.facts,
    Cert.Pre_gates_tame.Gen.facts, Cert.Pre_heads_tame.Gen.facts, Cert.Pre_ctx_tame.Gen.facts,
    Cert.Pre_mix_tame.Gen.facts,
    fun m ρ _ => Cert.Moe.Gen.frame m ρ,
    fun m ρ _ => Cert.MoeIdeal.Gen.frame m ρ,
    fun m ρ _ => Cert.MoeIdeal.Gen.frame m ρ,
    moe_ref_frame,
    fun m ρ _ => moe_ref_frame m ρ trivial,
    fun m ρ _ => Cert.Attn.Gen.frame m ρ,
    fun m ρ _ => Cert.AttnIdeal.Gen.frame m ρ,
    fun m ρ _ => Cert.AttnIdeal.Gen.frame m ρ,
    attn_ref_frame,
    fun m ρ _ => attn_ref_frame m ρ trivial,
    fun m ρ _ => Cert.Ctx.Gen.frame m ρ,
    fun m ρ _ => Cert.CtxIdeal.Gen.frame m ρ,
    fun m ρ _ => Cert.CtxIdeal.Gen.frame m ρ,
    ctx_ref_frame,
    fun m ρ _ => ctx_ref_frame m ρ trivial,
    fun m ρ _ => Cert.Mix.Gen.frame m ρ,
    fun m ρ _ => Cert.MixIdeal.Gen.frame m ρ,
    fun m ρ _ => Cert.MixIdeal.Gen.frame m ρ,
    mix_ref_frame,
    fun m ρ _ => mix_ref_frame m ρ trivial,
    trivial,
    moe_value,
    trivial,
    attn_value,
    trivial,
    ctx_value,
    trivial,
    mix_value⟩

end Cert.Proof
